-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_signal [hPre_finite_signal : Cert.Pre_finite_signal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_signal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_signal [hPre_finite_signal : Cert.Pre_finite_signal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_signal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_signal [hKernelIdeal : Cert.KernelIdeal.Facts] [hPre_finite_signal : Cert.Pre_finite_signal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_signal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_signal [hReferenceIdeal : Cert.ReferenceIdeal.Facts] [hPre_finite_signal : Cert.Pre_finite_signal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_signal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_signal [hKernelIdeal : Cert.KernelIdeal.Facts] [hReferenceIdeal : Cert.ReferenceIdeal.Facts] [hPre_finite_signal : Cert.Pre_finite_signal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_signal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_signal : Cert.Pre_finite_signal.Facts),
    quiescent_Kernel (hKernel := hKernel)
    ∧ quiescent_KernelIdeal (hKernelIdeal := hKernelIdeal)
    ∧ quiescent_KernelIdeal_pre_finite_signal (hKernelIdeal := hKernelIdeal) (hPre_finite_signal := hPre_finite_signal)
    ∧ quiescent_ReferenceIdeal (hReferenceIdeal := hReferenceIdeal)
    ∧ quiescent_ReferenceIdeal_pre_finite_signal (hReferenceIdeal := hReferenceIdeal) (hPre_finite_signal := hPre_finite_signal)
    ∧ preserves_Kernel_KernelIdeal
    ∧ algebraic_KernelIdeal_ReferenceIdeal_pre_finite_signal (hKernelIdeal := hKernelIdeal) (hReferenceIdeal := hReferenceIdeal) (hPre_finite_signal := hPre_finite_signal)
-- ==== Pre_finite_signal.lean ====
abbrev S65536x300 : Shape := ⟨2, ![65536, 300]⟩
abbrev S300 : Shape := ⟨1, ![300]⟩
abbrev S7 : Shape := ⟨1, ![7]⟩
abbrev S_ : Shape := ⟨0, ![]⟩

class Facts : Prop where
  bcast_S_S65536x300 : S_.BroadcastsInDim S65536x300 (![] : Fin 0 → Fin S65536x300.rank)
  reducesTo_S65536x300_S_d0_1 : S65536x300.ReducesTo [0, 1] S_
  h_S_ : 0 < S_.numel
  bcast_S_S7 : S_.BroadcastsInDim S7 (![] : Fin 0 → Fin S7.rank)
  reducesTo_S7_S_d0 : S7.ReducesTo [0] S_

variable [Facts]

def fn {F : FTy → Type} [FloatOps F] (main_arg0 : FVec F S65536x300 .f32) (main_arg1 : FVec F S300 .f32) (main_arg2 : FVec F S7 .f32) : IVec S_ 1 :=
  let main_v0 : FVec F S65536x300 .f32 := Host.absf main_arg0
  let main_cst : FVec F S_ .f32 := constant S_ .f32 0x7F800000#32
  let main_v1 : FVec F S65536x300 .f32 := broadcastInDim S65536x300 ![] bcast_S_S65536x300 main_cst
  let main_v2 : IVec S65536x300 1 := cmpf .olt main_v0 main_v1
  let main_c : IVec S_ 1 := constantI S_ 1 1#1
  let main_v3 : IVec S_ 1 := (fun x v => Host.reduce IntOp.andi x v reducesTo_S65536x300_S_d0_1 h_S_) main_v2 main_c
  let main_v4 : FVec F S7 .f32 := Host.absf main_arg2
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  main_v8
-- ==== Kernel.lean ====
abbrev S65536x300 : Shape := ⟨2, ![65536, 300]⟩
abbrev S300 : Shape := ⟨1, ![300]⟩
abbrev S7 : Shape := ⟨1, ![7]⟩
abbrev S300x1 : Shape := ⟨2, ![300, 1]⟩
abbrev S1x300 : Shape := ⟨2, ![1, 300]⟩
abbrev S300x300 : Shape := ⟨2, ![300, 300]⟩
abbrev S_ : Shape := ⟨0, ![]⟩
abbrev S1 : Shape := ⟨1, ![1]⟩
abbrev S65536x1 : Shape := ⟨2, ![65536, 1]⟩
abbrev S4096x300 : Shape := ⟨2, ![4096, 300]⟩
abbrev S4096x1 : Shape := ⟨2, ![4096, 1]⟩
abbrev S4096x299 : Shape := ⟨2, ![4096, 299]⟩
abbrev S4096 : Shape := ⟨1, ![4096]⟩
abbrev S65536 : Shape := ⟨1, ![65536]⟩

abbrev nBuf : Space → Nat
  | .hbm => 95
  | .vmem => 6
  | .smem => 0
  | _ => 0

abbrev bufTy : (tb : Table) → Fin (tcTables nBuf tb) → BufTy
  | .hbm, ⟨0, _⟩ => ⟨S65536x300, .f32⟩
  | .hbm, ⟨1, _⟩ => ⟨S300, .f32⟩
  | .hbm, ⟨2, _⟩ => ⟨S7, .f32⟩
  | .hbm, ⟨3, _⟩ => ⟨S300, .i32⟩
  | .hbm, ⟨4, _⟩ => ⟨S300x1, .i32⟩
  | .hbm, ⟨5, _⟩ => ⟨S300, .i32⟩
  | .hbm, ⟨6, _⟩ => ⟨S1x300, .i32⟩
  | .hbm, ⟨7, _⟩ => ⟨S300x300, .i32⟩
  | .hbm, ⟨8, _⟩ => ⟨S300x300, .i32⟩
  | .hbm, ⟨9, _⟩ => ⟨S300x300, .i32⟩
  | .hbm, ⟨10, _⟩ => ⟨S_, .i32⟩
  | .hbm, ⟨11, _⟩ => ⟨S300x300, .i32⟩
  | .hbm, ⟨12, _⟩ => ⟨S300x300, .i32⟩
  | .hbm, ⟨13, _⟩ => ⟨S_, .f32⟩
  | .hbm, ⟨14, _⟩ => ⟨S300x300, .f32⟩
  | .hbm, ⟨15, _⟩ => ⟨S_, .i32⟩
  | .hbm, ⟨16, _⟩ => ⟨S300x300, .i32⟩
  | .hbm, ⟨17, _⟩ => ⟨S300x300, .i1⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S300x300, .f32⟩
  | .hbm, ⟨23, _⟩ => ⟨S300x300, .f32⟩
  | .hbm, ⟨24, _⟩ => ⟨S300x300, .f32⟩
  | .hbm, ⟨25, _⟩ => ⟨S300x300, .f32⟩
  | .hbm, ⟨26, _⟩ => ⟨S_, .i32⟩
  | .hbm, ⟨27, _⟩ => ⟨S300x300, .i32⟩
  | .hbm, ⟨28, _⟩ => ⟨S300x300, .i1⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S300x300, .f32⟩
  | .hbm, ⟨34, _⟩ => ⟨S300x300, .f32⟩
  | .hbm, ⟨35, _⟩ => ⟨S300x300, .f32⟩
  | .hbm, ⟨36, _⟩ => ⟨S300x300, .f32⟩
  | .hbm, ⟨37, _⟩ => ⟨S_, .i32⟩
  | .hbm, ⟨38, _⟩ => ⟨S300x300, .i32⟩
  | .hbm, ⟨39, _⟩ => ⟨S300x300, .i1⟩
  | .hbm, ⟨40, _⟩ => ⟨S1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S300x300, .f32⟩
  | .hbm, ⟨45, _⟩ => ⟨S300x300, .f32⟩
  | .hbm, ⟨46, _⟩ => ⟨S300x300, .f32⟩
  | .hbm, ⟨47, _⟩ => ⟨S300x300, .f32⟩
  | .hbm, ⟨48, _⟩ => ⟨S_, .i32⟩
  | .hbm, ⟨49, _⟩ => ⟨S300x300, .i32⟩
  | .hbm, ⟨50, _⟩ => ⟨S300x300, .i1⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S300x300, .f32⟩
  | .hbm, ⟨56, _⟩ => ⟨S300x300, .f32⟩
  | .hbm, ⟨57, _⟩ => ⟨S300x300, .f32⟩
  | .hbm, ⟨58, _⟩ => ⟨S300x300, .f32⟩
  | .hbm, ⟨59, _⟩ => ⟨S_, .i32⟩
  | .hbm, ⟨60, _⟩ => ⟨S300x300, .i32⟩
  | .hbm, ⟨61, _⟩ => ⟨S300x300, .i1⟩
  | .hbm, ⟨62, _⟩ => ⟨S1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S300x300, .f32⟩
  | .hbm, ⟨67, _⟩ => ⟨S300x300, .f32⟩
  | .hbm, ⟨68, _⟩ => ⟨S300x300, .f32⟩
  | .hbm, ⟨69, _⟩ => ⟨S300x300, .f32⟩
  | .hbm, ⟨70, _⟩ => ⟨S_, .i32⟩
  | .hbm, ⟨71, _⟩ => ⟨S300x300, .i32⟩
  | .hbm, ⟨72, _⟩ => ⟨S300x300, .i1⟩
  | .hbm, ⟨73, _⟩ => ⟨S1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S300x300, .f32⟩
  | .hbm, ⟨78, _⟩ => ⟨S300x300, .f32⟩
  | .hbm, ⟨79, _⟩ => ⟨S300x300, .f32⟩
  | .hbm, ⟨80, _⟩ => ⟨S300x300, .f32⟩
  | .hbm, ⟨81, _⟩ => ⟨S_, .i32⟩
  | .hbm, ⟨82, _⟩ => ⟨S300x300, .i32⟩
  | .hbm, ⟨83, _⟩ => ⟨S300x300, .i1⟩
  | .hbm, ⟨84, _⟩ => ⟨S1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S300x300, .f32⟩
  | .hbm, ⟨89, _⟩ => ⟨S300x300, .f32⟩
  | .hbm, ⟨90, _⟩ => ⟨S300x300, .f32⟩
  | .hbm, ⟨91, _⟩ => ⟨S300x300, .f32⟩
  | .hbm, ⟨92, _⟩ => ⟨S1x300, .f32⟩
  | .hbm, ⟨93, _⟩ => ⟨S65536x1, .f32⟩
  | .hbm, ⟨94, _⟩ => ⟨S65536, .f32⟩
  | .local _ .vmem, ⟨0, _⟩ => ⟨S4096x300, .f32⟩
  | .local _ .vmem, ⟨1, _⟩ => ⟨S4096x300, .f32⟩
  | .local _ .vmem, ⟨2, _⟩ => ⟨S300x300, .f32⟩
  | .local _ .vmem, ⟨3, _⟩ => ⟨S1x300, .f32⟩
  | .local _ .vmem, ⟨4, _⟩ => ⟨S4096x1, .f32⟩
  | .local _ .vmem, ⟨5, _⟩ => ⟨S4096x1, .f32⟩
  | _, _ => ⟨S65536x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v44 : Ref sig .tc := ⟨.hbm, 79, rfl⟩
abbrev main_v45 : Ref sig .tc := ⟨.hbm, 80, rfl⟩
abbrev main_c_12 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_13 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x300 : Shape := ⟨2, ![65536, 300]⟩
abbrev S300 : Shape := ⟨1, ![300]⟩
abbrev S7 : Shape := ⟨1, ![7]⟩
abbrev S_ : Shape := ⟨0, ![]⟩
abbrev S65536x306 : Shape := ⟨2, ![65536, 306]⟩
abbrev S1 : Shape := ⟨1, ![1]⟩
abbrev S65536x298 : Shape := ⟨2, ![65536, 298]⟩
abbrev S65536x1 : Shape := ⟨2, ![65536, 1]⟩
abbrev S65536x2 : Shape := ⟨2, ![65536, 2]⟩
abbrev S65536 : Shape := ⟨1, ![65536]⟩
abbrev S1x300 : Shape := ⟨2, ![1, 300]⟩

abbrev nBuf : Space → Nat
  | .hbm => 136
  | .vmem => 0
  | .smem => 0
  | _ => 0

abbrev hbmTy0_0 (i : Nat) : BufTy := match i % 128 with
  | 0 => ⟨S65536x300, .f32⟩
  | 1 => ⟨S300, .f32⟩
  | 2 => ⟨S7, .f32⟩
  | 3 => ⟨S_, .i32⟩
  | 4 => ⟨S_, .f32⟩
  | 5 => ⟨S65536x306, .f32⟩
  | 6 => ⟨S65536x300, .f32⟩
  | 7 => ⟨S1, .f32⟩
  | 8 => ⟨S_, .f32⟩
  | 9 => ⟨S65536x300, .f32⟩
  | 10 => ⟨S65536x300, .f32⟩
  | 11 => ⟨S_, .f32⟩
  | 12 => ⟨S65536x300, .f32⟩
  | 13 => ⟨S65536x300, .f32⟩
  | 14 => ⟨S65536x300, .f32⟩
  | 15 => ⟨S1, .f32⟩
  | 16 => ⟨S_, .f32⟩
  | 17 => ⟨S65536x300, .f32⟩
  | 18 => ⟨S65536x300, .f32⟩
  | 19 => ⟨S65536x300, .f32⟩
  | 20 => ⟨S65536x300, .f32⟩
  | 21 => ⟨S1, .f32⟩
  | 22 => ⟨S_, .f32⟩
  | 23 => ⟨S65536x300, .f32⟩
  | 24 => ⟨S65536x300, .f32⟩
  | 25 => ⟨S65536x300, .f32⟩
  | 26 => ⟨S65536x300, .f32⟩
  | 27 => ⟨S1, .f32⟩
  | 28 => ⟨S_, .f32⟩
  | 29 => ⟨S65536x300, .f32⟩
  | 30 => ⟨S65536x300, .f32⟩
  | 31 => ⟨S65536x300, .f32⟩
  | 32 => ⟨S65536x300, .f32⟩
  | 33 => ⟨S1, .f32⟩
  | 34 => ⟨S_, .f32⟩
  | 35 => ⟨S65536x300, .f32⟩
  | 36 => ⟨S65536x300, .f32⟩
  | 37 => ⟨S65536x300, .f32⟩
  | 38 => ⟨S65536x300, .f32⟩
  | 39 => ⟨S1, .f32⟩
  | 40 => ⟨S_, .f32⟩
  | 41 => ⟨S65536x300, .f32⟩
  | 42 => ⟨S65536x300, .f32⟩
  | 43 => ⟨S65536x300, .f32⟩
  | 44 => ⟨S65536x300, .f32⟩
  | 45 => ⟨S1, .f32⟩
  | 46 => ⟨S_, .f32⟩
  | 47 => ⟨S65536x300, .f32⟩
  | 48 => ⟨S65536x300, .f32⟩
  | 49 => ⟨S65536x300, .f32⟩
  | 50 => ⟨S65536x298, .f32⟩
  | 51 => ⟨S65536x298, .f32⟩
  | 52 => ⟨S65536x298, .i1⟩
  | 53 => ⟨S65536x298, .f32⟩
  | 54 => ⟨S65536x298, .f32⟩
  | 55 => ⟨S65536x298, .i1⟩
  | 56 => ⟨S65536x298, .i1⟩
  | 57 => ⟨S65536x1, .f32⟩
  | 58 => ⟨S65536x1, .f32⟩
  | 59 => ⟨S65536x1, .i1⟩
  | 60 => ⟨S65536x1, .f32⟩
  | 61 => ⟨S65536x1, .f32⟩
  | 62 => ⟨S65536x1, .i1⟩
  | 63 => ⟨S65536x300, .i1⟩
  | 64 => ⟨S300, .i32⟩
  | 65 => ⟨S_, .i32⟩
  | 66 => ⟨S_, .i32⟩
  | 67 => ⟨S300, .i32⟩
  | 68 => ⟨S65536x300, .i32⟩
  | 69 => ⟨S65536x300, .i32⟩
  | 70 => ⟨S65536x300, .i32⟩
  | 71 => ⟨S65536x300, .i32⟩
  | 72 => ⟨S65536x2, .i32⟩
  | 73 => ⟨S65536x300, .i32⟩
  | 74 => ⟨S_, .i32⟩
  | 75 => ⟨S65536, .i32⟩
  | 76 => ⟨S_, .i32⟩
  | 77 => ⟨S65536, .i32⟩
  | 78 => ⟨S65536, .i1⟩
  | 79 => ⟨S65536x1, .i32⟩
  | 80 => ⟨S65536, .i32⟩
  | 81 => ⟨S65536x1, .i32⟩
  | 82 => ⟨S65536, .i32⟩
  | 83 => ⟨S65536, .i32⟩
  | 84 => ⟨S_, .i32⟩
  | 85 => ⟨S_, .i32⟩
  | 86 => ⟨S65536, .i32⟩
  | 87 => ⟨S65536, .i32⟩
  | 88 => ⟨S65536, .i32⟩
  | 89 => ⟨S_, .i32⟩
  | 90 => ⟨S65536, .i32⟩
  | 91 => ⟨S65536, .i1⟩
  | 92 => ⟨S65536, .i32⟩
  | 93 => ⟨S65536, .i32⟩
  | 94 => ⟨S_, .i32⟩
  | 95 => ⟨S65536, .i32⟩
  | 96 => ⟨S65536, .i1⟩
  | 97 => ⟨S65536, .i1⟩
  | 98 => ⟨S_, .i32⟩
  | 99 => ⟨S65536, .i32⟩
  | 100 => ⟨S65536, .i32⟩
  | 101 => ⟨S65536, .i32⟩
  | 102 => ⟨S_, .i32⟩
  | 103 => ⟨S_, .i32⟩
  | 104 => ⟨S65536, .i32⟩
  | 105 => ⟨S65536, .i32⟩
  | 106 => ⟨S300, .i32⟩
  | 107 => ⟨S1x300, .i32⟩
  | 108 => ⟨S65536x1, .i32⟩
  | 109 => ⟨S65536x300, .i32⟩
  | 110 => ⟨S65536x300, .i32⟩
  | 111 => ⟨S65536x300, .i1⟩
  | 112 => ⟨S_, .f32⟩
  | 113 => ⟨S65536x300, .f32⟩
  | 114 => ⟨S65536x300, .f32⟩
  | 115 => ⟨S_, .f32⟩
  | 116 => ⟨S_, .f32⟩
  | 117 => ⟨S300, .f32⟩
  | 118 => ⟨S65536x300, .f32⟩
  | 119 => ⟨S65536x300, .f32⟩
  | 120 => ⟨S_, .f32⟩
  | 121 => ⟨S65536, .f32⟩
  | 122 => ⟨S_, .f32⟩
  | 123 => ⟨S65536, .f32⟩
  | 124 => ⟨S65536, .f32⟩
  | 125 => ⟨S65536x1, .f32⟩
  | 126 => ⟨S65536x300, .f32⟩
  | 127 => ⟨S65536x300, .f32⟩
  | _ => ⟨S65536x300, .f32⟩

abbrev hbmTy0_1 (i : Nat) : BufTy := match i % 128 with
  | 0 => ⟨S65536x300, .f32⟩
  | 1 => ⟨S_, .f32⟩
  | 2 => ⟨S65536, .f32⟩
  | 3 => ⟨S65536x1, .f32⟩
  | 4 => ⟨S65536x300, .f32⟩
  | 5 => ⟨S65536x300, .f32⟩
  | 6 => ⟨S65536, .f32⟩
  | 7 => ⟨S65536, .f32⟩
  | _ => ⟨S65536x300, .f32⟩

abbrev hbmTy (i : Nat) : BufTy := match i / 128 with
  | 0 => hbmTy0_0 i
  | 1 => hbmTy0_1 i
  | _ => ⟨S65536x300, .f32⟩

abbrev bufTy : (tb : Table) → Fin (tcTables nBuf tb) → BufTy
  | .hbm, ⟨i, _⟩ => hbmTy i
  | _, _ => ⟨S65536x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_c_0 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_c_1 : Ref sig .tc := ⟨.hbm, 74, rfl⟩
abbrev main_v63 : Ref sig .tc := ⟨.hbm, 75, rfl⟩
abbrev main_c_2 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_3 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_c : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_0 : Ref sig .tc := ⟨.hbm, 98, rfl⟩
abbrev main_call3_v12 : Ref sig .tc := ⟨.hbm, 99, rfl⟩
abbrev main_call3_v13 : Ref sig .tc := ⟨.hbm, 100, rfl⟩
abbrev main_v71 : Ref sig .tc := ⟨.hbm, 101, rfl⟩
abbrev main_c_4 : Ref sig .tc := ⟨.hbm, 102, rfl⟩
abbrev main_call4_v0 : Ref sig .tc := ⟨.hbm, 103, rfl⟩
abbrev main_call4_v1 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_5 : Ref sig .tc := ⟨.hbm, 112, rfl⟩
abbrev main_v79 : Ref sig .tc := ⟨.hbm, 113, rfl⟩
abbrev main_v80 : Ref sig .tc := ⟨.hbm, 114, rfl⟩
abbrev main_cst_6 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v81 : Ref sig .tc := ⟨.hbm, 119, rfl⟩
abbrev main_cst_7 : Ref sig .tc := ⟨.hbm, 120, rfl⟩
abbrev main_v82 : Ref sig .tc := ⟨.hbm, 121, rfl⟩
abbrev main_cst_8 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_9 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩

abbrev nD : Nat := 1
abbrev τ : Topo := Topo.v7x

variable {F : FTy → Type} [FloatOps F]
-- ==== Proof.Finite.lean ====
/- The precondition read: every entry of the signals and of the taps is a real number. -/
module

public import proofs.«01_k».proof.Defs
public import Idealize.ShloMosaic.Lib.ReduceAll
public import Idealize.ShloMosaic.Lib.Pointwise

@[expose] public section

noncomputable section

namespace Cert.Pre_finite_signal

open Idealize.ShloMosaic

/-- An extended real whose absolute value is below plus infinity is a real number. -/
theorem real_of_abs (x : EReal) (h : max x (-x) < ⊤) : ∃ ρ : ℝ, x = ρ := by
  induction x with
  | bot => simp at h
  | coe r => exact ⟨r, rfl⟩
  | top => simp at h

/-- The word of plus infinity is plus infinity. -/
theorem f32_inf : (FloatOps.ofBits (F := Ideal) .f32 0x7F800000#32 : EReal) = ⊤ := by
  show Ideal.ofBits .f32 0x7F800000#32 = ⊤
  simp [Ideal.ofBits, Ideal.ieee]

variable [Facts]

/-- Where the test `|x| < inf` gave one, the entry is a real number. -/
theorem real_of_test {s : Shape} (x : FVec Ideal s .f32) (y : FVec Ideal s .f32) (i : s.Idx) (hy : y i = ⊤)
    (h : cmpf .olt (Host.absf x) y i = 1#1) : ∃ ρ : ℝ, x i = ρ := by
  have h' : BitVec.ofBool (decide (max (x i) (-x i) < y i)) = 1#1 := h
  rw [hy] at h'
  refine real_of_abs _ ?_
  by_contra hn
  simp [hn] at h'

/-- A conjunction of two bits is one only where both are. -/
theorem both {a b : BitVec 1} (h : a &&& b = 1#1) : a = 1#1 ∧ b = 1#1 := by
  revert a b
  decide

/-- The precondition holds only where every entry of the signals and of the taps is a real number. -/
theorem real_of_fn (x : FVec Ideal S65536x300 .f32) (f : FVec Ideal S300 .f32) (k : FVec Ideal S7 .f32)
    (h : fn (F := Ideal) x f k = fun _ => 1#1) :
    (∀ i, ∃ ρ : ℝ, x i = ρ) ∧ ∀ i, ∃ ρ : ℝ, k i = ρ := by
  have h0 := both (congrFun h ix0)
  haveI : Subsingleton S_.Idx := ⟨fun a b => funext fun d => d.elim0⟩
  exact ⟨fun i => real_of_test x _ i f32_inf (Host.reduce_andi_all _ _ _ _ _ h0.1 i),
    fun i => real_of_test k _ i f32_inf (Host.reduce_andi_all _ _ _ _ _ h0.2 i)⟩

end Cert.Pre_finite_signal

end
-- ==== Proof.Peaks.lean ====
/- Where a row's softmax window stops: the combinatorics of the first two peaks, over natural numbers.
   The kernel finds them by two minima, the reference by a sort; both are related here to one pair of minima. -/
module

public import Idealize.ShloMosaic.PureOps
public import Idealize.ShloMosaic.PureOps.Ideal

@[expose] public section

noncomputable section

namespace Cert.Row

/-- `j` is a strict local maximum of the row `b`; at an end of the row only the one neighbour counts. -/
def peak (b : Fin 300 → EReal) (j : Fin 300) : Prop :=
  (∀ h : 0 < (j : ℕ), b ⟨j - 1, by omega⟩ < b j) ∧ (∀ h : (j : ℕ) + 1 < 300, b ⟨j + 1, h⟩ < b j)

/-- Whether an entry is a peak is decided, by excluded middle. -/
instance peakDecidable (b : Fin 300 → EReal) : DecidablePred (peak b) := fun _ => Classical.propDecidable _

section
variable (P : Fin 300 → Prop) [DecidablePred P]

/-- The position of a marked entry, `300` at an unmarked one. -/
def posn (j : Fin 300) : ℕ := if P j then j else 300

/-- The least value of a row of natural numbers. -/
def least (f : Fin 300 → ℕ) : ℕ := Finset.univ.inf' ⟨0, Finset.mem_univ 0⟩ f

/-- The first marked position, `300` if there is none. -/
def firstPos : ℕ := least (posn P)

/-- The positions after the first marked one. -/
def later (j : Fin 300) : ℕ := if firstPos P < (j : ℕ) then posn P j else 300

/-- The second marked position, `300` if there is none. -/
def secondPos : ℕ := least (later P)

/-- Where the window stops: halfway between the first two marked positions, else one before the end. -/
def stop : ℕ := if secondPos P < 300 then (firstPos P + secondPos P) / 2 else 299

/-- The least value is at most each value. -/
theorem least_le (f : Fin 300 → ℕ) (j : Fin 300) : least f ≤ f j := Finset.inf'_le _ (Finset.mem_univ j)

/-- The least value is one of the values. -/
theorem least_attained (f : Fin 300 → ℕ) : ∃ j, least f = f j := by
  obtain ⟨j, -, h⟩ := Finset.exists_mem_eq_inf' (s := Finset.univ) ⟨(0 : Fin 300), Finset.mem_univ 0⟩ f
  exact ⟨j, h⟩

/-- A position below 300 is that of an entry with the property. -/
theorem posn_lt {j : Fin 300} : posn P j < 300 ↔ P j := by
  unfold posn
  split <;> rename_i h <;> simp [h]

/-- No position is above 300. -/
theorem posn_le (j : Fin 300) : posn P j ≤ 300 := by
  unfold posn
  split <;> omega

/-- An entry with the property has its own position. -/
theorem posn_of {j : Fin 300} (h : P j) : posn P j = j := if_pos h

/-- The first position is at most 300. -/
theorem firstPos_le : firstPos P ≤ 300 := (least_le _ 0).trans (posn_le P 0)

/-- The second position is at most 300. -/
theorem secondPos_le : secondPos P ≤ 300 := by
  refine (least_le _ 0).trans ?_
  unfold later
  split
  · exact posn_le P 0
  · exact le_rfl

/-- When there is a second marked position, it is a marked one after the first, and the first is marked. -/
theorem second_spec (h : secondPos P < 300) :
    ∃ a c : Fin 300, P a ∧ P c ∧ firstPos P = a ∧ secondPos P = c ∧ a < c := by
  obtain ⟨c, hc⟩ := least_attained (later P)
  have hc' : later P c < 300 := hc ▸ h
  unfold later at hc'
  split at hc'
  · rename_i hlt
    have hP := (posn_lt P).1 hc'
    obtain ⟨a, ha⟩ := least_attained (posn P)
    have hfa : firstPos P = posn P a := ha
    have ha' : posn P a < 300 := by rw [← hfa]; omega
    have hPa := (posn_lt P).1 ha'
    rw [posn_of P hPa] at hfa
    refine ⟨a, c, hPa, hP, hfa, ?_, ?_⟩
    · show least (later P) = c
      rw [hc]
      unfold later
      rw [if_pos hlt, posn_of P hP]
    · show (a : ℕ) < c
      omega
  · exact absurd hc' (lt_irrefl _)

/-- A second marked position exists as soon as two positions are marked. -/
theorem second_lt_of_two {a c : Fin 300} (ha : P a) (hc : P c) (h : a < c) : secondPos P ≤ c := by
  have h1 : firstPos P ≤ a := (least_le (posn P) a).trans (posn_of P ha).le
  have h2 : later P c = c := by
    unfold later
    rw [if_pos (lt_of_le_of_lt h1 h), posn_of P hc]
  exact (least_le (later P) c).trans h2.le

/-- There is a second marked position exactly when at least two positions are marked. -/
theorem second_lt_iff : secondPos P < 300 ↔ 2 ≤ (Finset.univ.filter fun j => P j).card := by
  constructor
  · intro h
    obtain ⟨a, c, ha, hc, -, -, hac⟩ := second_spec P h
    have : ({a, c} : Finset (Fin 300)) ⊆ Finset.univ.filter fun j => P j := by
      intro j hj
      simp only [Finset.mem_insert, Finset.mem_singleton] at hj
      rcases hj with rfl | rfl <;> simp [ha, hc]
    have h2 := Finset.card_le_card this
    rwa [Finset.card_pair hac.ne] at h2
  · intro h
    obtain ⟨a, ha, c, hc, hne⟩ := Finset.one_lt_card.1 (show 1 < _ from h)
    have ha' := (Finset.mem_filter.1 ha).2
    have hc' := (Finset.mem_filter.1 hc).2
    rcases lt_or_gt_of_ne hne with hlt | hlt
    · exact lt_of_le_of_lt (second_lt_of_two P ha' hc' hlt) c.2
    · exact lt_of_le_of_lt (second_lt_of_two P hc' ha' hlt) a.2

/-- A sorted arrangement of the positions starts with the first marked position. -/
theorem sorted_first (σ : Fin 300 → Fin 300) (hσ : Function.Surjective σ)
    (hs : ∀ k k', k < k' → posn P (σ k) ≤ posn P (σ k')) : posn P (σ 0) = firstPos P := by
  refine le_antisymm ?_ (least_le (posn P) _)
  obtain ⟨a, ha⟩ := least_attained (posn P)
  obtain ⟨k, rfl⟩ := hσ a
  show _ ≤ least (posn P)
  rw [ha]
  rcases Nat.eq_zero_or_pos (k : ℕ) with h | h
  · rw [show k = 0 from Fin.ext h]
  · exact hs 0 k h

/-- A sorted arrangement of the positions goes on with the second marked position, when there is one. -/
theorem sorted_second (σ : Fin 300 → Fin 300) (hσ : Function.Bijective σ)
    (hs : ∀ k k', k < k' → posn P (σ k) ≤ posn P (σ k')) (h : secondPos P < 300) :
    posn P (σ 1) = secondPos P := by
  have h0 := sorted_first P σ hσ.2 hs
  obtain ⟨a, c, ha, hc, hfa, hsc, hac⟩ := second_spec P h
  have hmono : ∀ k : Fin 300, 1 ≤ (k : ℕ) → posn P (σ 1) ≤ posn P (σ k) := fun k hk => by
    rcases Nat.eq_or_lt_of_le hk with e | e
    · rw [show k = 1 from Fin.ext e.symm]
    · exact hs 1 k e
  have hle : posn P (σ 1) ≤ c := by
    obtain ⟨ka, hka⟩ := hσ.2 a
    obtain ⟨kc, hkc⟩ := hσ.2 c
    rcases Nat.eq_zero_or_pos (kc : ℕ) with hz | hz
    · have : 1 ≤ (ka : ℕ) := by
        rcases Nat.eq_zero_or_pos (ka : ℕ) with hz' | hz'
        · exact absurd (show a = c by rw [← hka, ← hkc, Fin.ext (hz'.trans hz.symm)]) hac.ne
        · exact hz'
      have := hmono ka this
      rw [hka, posn_of P ha] at this
      exact this.trans hac.le
    · have := hmono kc hz
      rwa [hkc, posn_of P hc] at this
  have hlt : posn P (σ 1) < 300 := lt_of_le_of_lt hle c.2
  have hP1 := (posn_lt P).1 hlt
  rw [posn_of P hP1] at hle ⊢
  have hf : posn P (σ 0) < 300 := by rw [h0, hfa]; exact a.2
  have hP0 := (posn_lt P).1 hf
  rw [posn_of P hP0, hfa] at h0
  have hne : σ 0 ≠ σ 1 := fun e => absurd (hσ.1 e) (by decide)
  have hge : (a : ℕ) ≤ σ 1 := by
    have := hs 0 1 (by decide)
    rw [posn_of P hP0, posn_of P hP1, h0] at this
    exact this
  have hgt : a < σ 1 := lt_of_le_of_ne hge fun e => hne (Fin.ext (h0.trans (congrArg Fin.val e)))
  refine le_antisymm (by rw [hsc]; exact hle) (second_lt_of_two P ha hP1 hgt)

/-- The window stops at 299 at the latest. -/
theorem stop_le : stop P ≤ 299 := by
  unfold stop
  split
  · have := firstPos_le P
    obtain ⟨a, c, -, -, hfa, hsc, hac⟩ := second_spec P ‹_›
    have : (a : ℕ) < c := hac
    omega
  · exact le_rfl

end

/-- The window holds position zero at least: two strict peaks of one row are never neighbours. -/
theorem one_le_stop (b : Fin 300 → EReal) : 1 ≤ stop (peak b) := by
  unfold stop
  split
  · rename_i h
    obtain ⟨a, c, ha, hc, hfa, hsc, hac⟩ := second_spec _ h
    have hac' : (a : ℕ) < c := hac
    rw [hfa, hsc]
    by_contra hcon
    have h0 : (a : ℕ) = 0 := by omega
    have h1 : (c : ℕ) = 1 := by omega
    have ea : a = 0 := Fin.ext h0
    have ec : c = 1 := Fin.ext h1
    subst ea ec
    have l1 := ha.2 (by decide)
    have l2 := hc.1 (by decide)
    exact absurd l1 (not_lt.2 l2.le)
  · decide

/-! ## The same numbers among the extended reals -/

/-- A natural number as an extended real. -/
def nat (n : ℕ) : EReal := ((n : ℝ) : EReal)

/-- Numbers compare the same among the extended reals. -/
theorem nat_lt {m n : ℕ} : nat m < nat n ↔ m < n := by
  unfold nat
  rw [EReal.coe_lt_coe_iff, Nat.cast_lt]

/-- Numbers compare the same among the extended reals. -/
theorem nat_le {m n : ℕ} : nat m ≤ nat n ↔ m ≤ n := by
  unfold nat
  rw [EReal.coe_le_coe_iff, Nat.cast_le]

/-- The minimum of natural numbers, taken among the extended reals from plus infinity, is their least. -/
theorem fold_min_nat (f : Fin 300 → ℕ) : (Finset.univ.fold min ⊤ fun j => nat (f j)) = nat (least f) := by
  refine le_antisymm ?_ ?_
  · obtain ⟨j, hj⟩ := least_attained f
    exact (Finset.fold_min_le _).2 (.inr ⟨j, Finset.mem_univ _, (congrArg nat hj).ge⟩)
  · exact (Finset.le_fold_min _).2 ⟨le_top, fun j _ => nat_le.2 (least_le f j)⟩

/-- Half a sum of natural numbers, rounded down, is the whole quotient by two. -/
theorem floor_half (a c : ℕ) : Int.floor (((a : ℝ) + c) * (1 / 2)) = (((a + c) / 2 : ℕ) : ℤ) := by
  rw [Int.floor_eq_iff]
  have h1 : 2 * ((a + c) / 2) ≤ a + c := by omega
  have h2 : a + c < 2 * ((a + c) / 2) + 2 := by omega
  have h1' : (2 : ℝ) * (((a + c) / 2 : ℕ) : ℝ) ≤ a + c := by exact_mod_cast h1
  have h2' : (a : ℝ) + c < 2 * (((a + c) / 2 : ℕ) : ℝ) + 2 := by exact_mod_cast h2
  rw [Int.cast_natCast]
  constructor <;> linarith

end Cert.Row

end
-- ==== Proof.Soft.lean ====
/- The softmax-weighted mean of one row over the extended reals: without the row maximum taken off (the kernel)
   and with it taken off (the reference), the same number, for any frequencies. -/
module

public import Idealize.ShloMosaic.PureOps
public import Idealize.ShloMosaic.Lib.IdealHost

@[expose] public section

noncomputable section

namespace Cert.Row

open Idealize.ShloMosaic

/-- A real number comes out of a sum of extended reals it multiplies, term by term, if it is not negative. -/
theorem sum_const_mul {ι : Type} (s : Finset ι) (c : ℝ) (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hc) (EReal.coe_ne_top c)]

/-- The sum of real numbers, taken among the extended reals, is their real sum. -/
theorem sum_real {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable (b f : Fin 300 → EReal) (M : Fin 300 → Prop) [DecidablePred M]

/-- A row's exponentials inside the window, zero outside. -/
def expo (j : Fin 300) : EReal := if M j then Ideal.exp (b j) else 0

/-- The kernel's row: minus the weighted sum of the frequencies over the sum of the weights. -/
def rowKernel : EReal := 0 - Ideal.div (∑ j, expo b M j * f j) (∑ j, expo b M j)

/-- The reference's logits: the row inside the window, minus infinity outside. -/
def logit (j : Fin 300) : EReal := if M j then b j else ⊥

/-- The reference's exponentials, the row's greatest logit taken off first. -/
def expoMax (j : Fin 300) : EReal := Ideal.exp (logit b M j - max ⊥ (Finset.univ.fold max ⊥ (logit b M)))

/-- The reference's row: minus the sum of the frequencies at their softmax weights. -/
def rowReference : EReal := -∑ j, Ideal.div (expoMax b M j) (∑ l, expoMax b M l) * f j

/-- The greatest logit of a row of real numbers with a nonempty window is a real number. -/
theorem max_logit_real (β : Fin 300 → ℝ) (hb : ∀ j, b j = β j) (j₀ : Fin 300) (h₀ : M j₀) :
    ∃ μ : ℝ, max ⊥ (Finset.univ.fold max ⊥ (logit b M)) = (μ : EReal) := by
  have hlow : (β j₀ : EReal) ≤ max ⊥ (Finset.univ.fold max ⊥ (logit b M)) := by
    refine le_max_of_le_right ((Finset.le_fold_max _).2 (.inr ⟨j₀, Finset.mem_univ _, ?_⟩))
    rw [logit, if_pos h₀, hb]
  have hhigh : max ⊥ (Finset.univ.fold max ⊥ (logit b M)) < ⊤ := by
    refine max_lt bot_lt_top ((Finset.fold_max_lt _).2 ⟨bot_lt_top, fun j _ => ?_⟩)
    unfold logit
    split
    · rw [hb]; exact EReal.coe_lt_top _
    · exact bot_lt_top
  have hne : max ⊥ (Finset.univ.fold max ⊥ (logit b M)) ≠ ⊥ :=
    fun e => absurd (hlow.trans e.le) (not_le.2 (EReal.bot_lt_coe _))
  exact ⟨_, (EReal.coe_toReal hhigh.ne hne).symm⟩

/-- For a row of real numbers and a nonempty window the kernel's and the reference's means agree,
    whatever the frequencies (infinite ones included). -/
theorem rowKernel_eq_rowReference (β : Fin 300 → ℝ) (hb : ∀ j, b j = β j) (j₀ : Fin 300) (h₀ : M j₀) :
    rowKernel b f M = rowReference b f M := by
  obtain ⟨μ, hμ⟩ := max_logit_real b M β hb j₀ h₀
  let e : Fin 300 → ℝ := fun j => if M j then Real.exp (β j) else 0
  have he0 : ∀ j, 0 ≤ e j := fun j => by
    show 0 ≤ (if M j then Real.exp (β j) else 0)
    split
    · exact (Real.exp_pos _).le
    · exact le_rfl
  have hs : 0 < ∑ j, e j :=
    Finset.sum_pos' (fun j _ => he0 j) ⟨j₀, Finset.mem_univ _, by
      show 0 < (if M j₀ then Real.exp (β j₀) else 0)
      rw [if_pos h₀]; exact Real.exp_pos _⟩
  have hK : ∀ j, expo b M j = (e j : EReal) := fun j => by
    show _ = ((if M j then Real.exp (β j) else 0 : ℝ) : EReal)
    unfold expo
    split
    · rw [hb, Ideal.exp_coe]
    · rfl
  have hR : ∀ j, expoMax b M j = ((Real.exp (-μ) * e j : ℝ) : EReal) := fun j => by
    show _ = ((Real.exp (-μ) * (if M j then Real.exp (β j) else 0) : ℝ) : EReal)
    unfold expoMax
    rw [hμ, logit]
    split
    · rw [hb, ← EReal.coe_sub, Ideal.exp_coe, ← Real.exp_add]
      congr 2
      ring
    · rw [EReal.bot_sub, Ideal.exp_bot, mul_zero, EReal.coe_zero]
  have hμ0 : Real.exp (-μ) ≠ 0 := (Real.exp_pos _).ne'
  unfold rowKernel rowReference
  simp only [hK, hR]
  rw [sum_real, sum_real, ← Finset.mul_sum, zero_sub, Ideal.div_coe hs.ne']
  congr 1
  rw [mul_comm, ← sum_const_mul _ _ (one_div_nonneg.2 hs.le)]
  refine Finset.sum_congr rfl fun j _ => ?_
  rw [Ideal.div_coe (mul_ne_zero hμ0 hs.ne'), ← mul_assoc, ← EReal.coe_mul, ← EReal.coe_mul]
  congr 2
  field_simp

end

end Cert.Row

end
-- ==== Proof.KernelRow.lean ====
/- What the kernel's body stores for one row of its block, read over the extended reals. -/
module

public import proofs.«01_k».proof.Proof.Gen.KernelIdeal.Skeleton
public import proofs.«01_k».proof.Proof.Gen.KernelIdeal
public import proofs.«01_k».proof.Proof.Peaks
public import proofs.«01_k».proof.Proof.Soft
public import Idealize.ShloMosaic.Lib.Pointwise

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

/-! ## The constants -/

/-- The word of minus infinity. -/
theorem f32_neg_inf : Ideal.ofBits .f32 0xFF800000#32 = ⊥ := by
  simp [Ideal.ofBits, Ideal.ieee]

/-- The word of plus infinity. -/
theorem f32_inf : Ideal.ofBits .f32 0x7F800000#32 = ⊤ := by
  simp [Ideal.ofBits, Ideal.ieee]

/-- The word of 300. -/
theorem f32_300 : Ideal.ofBits .f32 0x43960000#32 = (((300 : ℕ) : ℝ) : EReal) := by
  simp [Ideal.ofBits, Ideal.ieee, -EReal.coe_mul]
  norm_num

/-- The word of one half. -/
theorem f32_half : Ideal.ofBits .f32 0x3F000000#32 = (((1 : ℝ) / 2 : ℝ) : EReal) := by
  simp [Ideal.ofBits, Ideal.ieee, -EReal.coe_mul]
  norm_num

/-! ## The body's values, piece by piece -/

section
variable (b : FVec Ideal S4096x300 .f32)

/-- The block's peaks. -/
def peakBits : IVec S4096x300 1 :=
  andi
    (cmpf .ogt b (concatenate S4096x300 1 [⟨S4096x1, (broadcast S4096x1 (Scalar.ofBits .f32 0xFF800000#32 : Ideal .f32) : FVec Ideal S4096x1 .f32)⟩, ⟨S4096x299, extractStridedSlice S4096x299 ![0, 0] b slices_S4096x300_o0_0_S4096x299⟩] concatenates_S4096x1_S4096x299_S4096x300_d1))
    (cmpf .ogt b (concatenate S4096x300 1 [⟨S4096x299, extractStridedSlice S4096x299 ![0, 1] b slices_S4096x300_o0_1_S4096x299⟩, ⟨S4096x1, (broadcast S4096x1 (Scalar.ofBits .f32 0xFF800000#32 : Ideal .f32) : FVec Ideal S4096x1 .f32)⟩] concatenates_S4096x299_S4096x1_S4096x300_d1))

/-- The columns' numbers. -/
def columns : FVec Ideal S1x300 .f32 := sitofp .f32 (iota .tc S1x300 32 [1] iota_S1x300_d1_w32)

/-- Each entry's column at a peak, 300 elsewhere. -/
def peakColumn : FVec Ideal S4096x300 .f32 :=
  select (peakBits b) (broadcastTo S4096x300 (shapeCast S1x300 columns shapeCasts_S1x300_S1x300) broadcasts_S1x300_S4096x300)
    (broadcast S4096x300 (Scalar.ofBits .f32 0x43960000#32))

/-- Each row's least entry. -/
def rowLeast (v : FVec Ideal S4096x300 .f32) : FVec Ideal S4096x1 .f32 :=
  shapeCast S4096x1 (multiReduction .minimumf [1] S4096 v 0x7F800000#32 reduces_S4096x300_S4096 (.inl rfl) rfl) shapeCasts_S4096_S4096x1

/-- Each entry's column at a peak after the row's first, 300 elsewhere. -/
def laterColumn : FVec Ideal S4096x300 .f32 :=
  select (cmpf .ogt (broadcastTo S4096x300 columns broadcasts_S1x300_S4096x300) (broadcastTo S4096x300 (rowLeast (peakColumn b)) broadcasts_S4096x1_S4096x300))
    (peakColumn b) (broadcast S4096x300 (Scalar.ofBits .f32 0x43960000#32))

/-- Where each row's window stops. -/
def rowStop : FVec Ideal S4096x1 .f32 :=
  select (cmpf .olt (rowLeast (laterColumn b)) (broadcast S4096x1 (Scalar.ofBits .f32 0x43960000#32)))
    (floor (mulf (addf (rowLeast (peakColumn b)) (rowLeast (laterColumn b))) (broadcast S4096x1 (Scalar.ofBits .f32 0x3F000000#32))))
    (broadcast S4096x1 (Scalar.subf (Scalar.ofBits .f32 0x43960000#32) (Scalar.ofBits .f32 0x3F800000#32)))

/-- The block's weights. -/
def weights : FVec Ideal S4096x300 .f32 :=
  select (cmpf .olt (broadcastTo S4096x300 columns broadcasts_S1x300_S4096x300) (broadcastTo S4096x300 (rowStop b) broadcasts_S4096x1_S4096x300))
    (exp b) (broadcast S4096x300 (Scalar.ofBits .f32 0x00000000#32))

end

/-- The block's blurred rows. -/
def blurred (x : FVec Ideal S4096x300 .f32) (w : FVec Ideal S300x300 .f32) : FVec Ideal S4096x300 .f32 :=
  matmul dot_S4096x300_S300x300_S4096x300_1_0_0_1_n_n none x (shapeCast S300x300 w shapeCasts_S300x300_S300x300) (constant S4096x300 .f32 0x00000000#32)

/-- The body's weights are those of its blurred rows. -/
theorem pay2_eq (x : FVec Ideal S4096x300 .f32) (w : FVec Ideal S300x300 .f32) :
    k0_pay2 (F := Ideal) x w = weights (blurred x w) := rfl

/-! ## Read at an index -/

/-- A column number as the machine's word is the number. -/
theorem word_toInt {n : ℕ} (h : n < 2 ^ 31) : (BitVec.ofNat 32 n).toInt = (n : ℤ) := by
  rw [BitVec.toInt_eq_toNat_of_lt] <;> rw [BitVec.toNat_ofNat] <;> omega

/-- A select on a decided bit is a case distinction. -/
theorem select_ofBool {α : Type} (p : Prop) [Decidable p] (a c : α) :
    Scalar.select (BitVec.ofBool (decide p)) a c = if p then a else c := by
  by_cases h : p <;> simp [h, Scalar.select]

/-- The column numbers, as floats. -/
theorem columns_at (j : Fin 300) : columns (ix2 0 j) = nat j := by
  pointwise [columns]
  show (((BitVec.ofNat 32 (j : ℕ)).toInt : ℝ) : EReal) = ((j : ℝ) : EReal)
  rw [word_toInt (by omega), Int.cast_natCast]

/-- A choice by a comparison of the column number with a row's number. -/
theorem choose_lt_at (u : FVec Ideal S1x300 .f32) (v : FVec Ideal S4096x1 .f32) (a c : FVec Ideal S4096x300 .f32) (r : Fin 4096) (j : Fin 300) :
    select (cmpf .olt (broadcastTo S4096x300 u broadcasts_S1x300_S4096x300) (broadcastTo S4096x300 v broadcasts_S4096x1_S4096x300)) a c (ix2 r j)
      = if u (ix2 0 j) < v (ix2 r 0) then a (ix2 r j) else c (ix2 r j) := by
  pointwise []

/-- The same, the other way round. -/
theorem choose_gt_at (u : FVec Ideal S1x300 .f32) (v : FVec Ideal S4096x1 .f32) (a c : FVec Ideal S4096x300 .f32) (r : Fin 4096) (j : Fin 300) :
    select (cmpf .ogt (broadcastTo S4096x300 u broadcasts_S1x300_S4096x300) (broadcastTo S4096x300 v broadcasts_S4096x1_S4096x300)) a c (ix2 r j)
      = if v (ix2 r 0) < u (ix2 0 j) then a (ix2 r j) else c (ix2 r j) := by
  pointwise []

/-- The choice of the stop, over the two positions. -/
theorem choose_stop_at (p q : FVec Ideal S4096x1 .f32) (r : Fin 4096) :
    select (cmpf .olt q (broadcast S4096x1 (Scalar.ofBits .f32 0x43960000#32)))
      (floor (mulf (addf p q) (broadcast S4096x1 (Scalar.ofBits .f32 0x3F000000#32))))
      (broadcast S4096x1 (Scalar.subf (Scalar.ofBits .f32 0x43960000#32) (Scalar.ofBits .f32 0x3F800000#32))) (ix2 r 0)
      = if q (ix2 r 0) < Ideal.ofBits .f32 0x43960000#32 then
          Ideal.liftRound Int.floor ((p (ix2 r 0) + q (ix2 r 0)) * Ideal.ofBits .f32 0x3F000000#32)
        else Ideal.ofBits .f32 0x43960000#32 - 1 := by
  pointwise []

/-- The least entry of a row. -/
theorem rowLeast_at (v : FVec Ideal S4096x300 .f32) (r : Fin 4096) :
    rowLeast v (ix2 r 0) = Finset.univ.fold min ⊤ fun j : Fin 300 => v (ix2 r j) := by
  pointwise [rowLeast, f32_inf]

/-- The matrix product at an entry. -/
theorem blurred_at (x : FVec Ideal S4096x300 .f32) (w : FVec Ideal S300x300 .f32) (r : Fin 4096) (j : Fin 300) :
    blurred x w (ix2 r j) = ∑ i, x (ix2 r i) * w (ix2 i j) := by
  pointwise [blurred]

/-- What is stored for a row, from its weights and their sum. -/
theorem pay1_at (e : FVec Ideal S4096x300 .f32) (s : FVec Ideal S4096 .f32) (f : FVec Ideal S1x300 .f32) (r : Fin 4096) :
    k0_pay1 (F := Ideal) e s f (ix2 r 0) = 0 - Ideal.div (∑ j, e (ix2 r j) * f (ix2 0 j)) (s (ix1 r)) := by
  pointwise [k0_pay1]

section
variable (b : FVec Ideal S4096x300 .f32) (β : Fin 300 → EReal) (r : Fin 4096) (hβ : ∀ j, b (ix2 r j) = β j) (hbot : ∀ j, ⊥ < β j)

include hβ hbot in
/-- The peak test at an entry: the neighbours outside the row count as minus infinity. -/
theorem peakBits_at (j : Fin 300) : peakBits b (ix2 r j) = BitVec.ofBool (decide (peak β j)) := by
  have h1 : peakBits b (ix2 r j) = IntOp.andi
      (BitVec.ofBool (decide ((if h : (j : ℕ) < 1 then ⊥ else β ⟨j - 1, by omega⟩) < β j)))
      (BitVec.ofBool (decide ((if h : (j : ℕ) < 299 then β ⟨1 + j, by omega⟩ else ⊥) < β j))) := by
    pointwise [peakBits, f32_neg_inf, hβ]
  have h2 : ∀ p q : Bool, IntOp.andi (BitVec.ofBool p) (BitVec.ofBool q) = BitVec.ofBool (p && q) := by decide
  rw [h1, h2, ← Bool.decide_and]
  congr 1
  refine decide_eq_decide.2 ?_
  unfold peak
  refine and_congr ?_ ?_
  · by_cases h : (j : ℕ) < 1
    · rw [dif_pos h]
      exact ⟨fun _ h' => absurd h' (by omega), fun _ => hbot j⟩
    · rw [dif_neg h]
      exact ⟨fun h' _ => h', fun h' => h' (by omega)⟩
  · by_cases h : (j : ℕ) < 299
    · rw [dif_pos h]
      have e : (⟨1 + j, by omega⟩ : Fin 300) = ⟨j + 1, by omega⟩ := Fin.ext (Nat.add_comm _ _)
      rw [e]
      exact ⟨fun h' _ => h', fun h' => h' (by omega)⟩
    · rw [dif_neg h]
      exact ⟨fun _ h' => absurd h' (by omega), fun _ => hbot j⟩

/-- The first choice at an entry, by the peak test. -/
theorem peakColumn_at' (j : Fin 300) :
    peakColumn b (ix2 r j) = Scalar.select (peakBits b (ix2 r j)) (columns (ix2 0 j)) (Ideal.ofBits .f32 0x43960000#32) := by
  pointwise [peakColumn]

include hβ hbot in
/-- An entry's column where it is a peak, 300 elsewhere. -/
theorem peakColumn_at (j : Fin 300) : peakColumn b (ix2 r j) = nat (posn (peak β) j) := by
  rw [peakColumn_at', peakBits_at b β r hβ hbot, columns_at, select_ofBool, f32_300, posn, apply_ite nat]
  rfl

include hβ hbot in
/-- The first peak's column. -/
theorem first_at : rowLeast (peakColumn b) (ix2 r 0) = nat (firstPos (peak β)) := by
  rw [rowLeast_at]
  simp only [peakColumn_at b β r hβ hbot]
  exact fold_min_nat _

include hβ hbot in
/-- A later peak's column, 300 elsewhere. -/
theorem laterColumn_at (j : Fin 300) : laterColumn b (ix2 r j) = nat (later (peak β) j) := by
  have e : (broadcast S4096x300 (Scalar.ofBits .f32 0x43960000#32) : FVec Ideal S4096x300 .f32) (ix2 r j) = nat 300 := f32_300
  refine (choose_gt_at _ _ _ _ r j).trans ?_
  rw [first_at b β r hβ hbot, columns_at, peakColumn_at b β r hβ hbot, e, later, apply_ite nat]
  simp only [nat_lt]

include hβ hbot in
/-- The second peak's column. -/
theorem second_at : rowLeast (laterColumn b) (ix2 r 0) = nat (secondPos (peak β)) := by
  rw [rowLeast_at]
  simp only [laterColumn_at b β r hβ hbot]
  exact fold_min_nat _

include hβ hbot in
/-- Where the window of the row stops. -/
theorem rowStop_at : rowStop b (ix2 r 0) = nat (stop (peak β)) := by
  refine (choose_stop_at _ _ r).trans ?_
  rw [first_at b β r hβ hbot, second_at b β r hβ hbot, f32_300, f32_half, stop, apply_ite nat]
  have e1 : nat (secondPos (peak β)) < (((300 : ℕ) : ℝ) : EReal) ↔ secondPos (peak β) < 300 := nat_lt
  simp only [e1]
  congr 1
  · unfold nat
    rw [← EReal.coe_add, ← EReal.coe_mul, Ideal.liftRound_coe, floor_half, Int.cast_natCast]
  · show (((300 : ℕ) : ℝ) : EReal) - ((1 : ℝ) : EReal) = (((299 : ℕ) : ℝ) : EReal)
    rw [← EReal.coe_sub]
    norm_num

include hβ hbot in
/-- The exponentials inside the window. -/
theorem weights_at (j : Fin 300) : weights b (ix2 r j) = expo β (fun l => (l : ℕ) < stop (peak β)) j := by
  have e1 : (exp b : FVec Ideal S4096x300 .f32) (ix2 r j) = Ideal.exp (β j) := congrArg Ideal.exp (hβ j)
  have e2 : (broadcast S4096x300 (Scalar.ofBits .f32 0x00000000#32) : FVec Ideal S4096x300 .f32) (ix2 r j) = 0 := Ideal.ofBits_zero_f32
  refine (choose_lt_at _ _ _ _ r j).trans ?_
  rw [rowStop_at b β r hβ hbot, columns_at, e1, e2, expo]
  simp only [nat_lt]

end

/-- What the body stores for row `r` of its block: the row's softmax-weighted mean, of its blurred entries. -/
theorem stored_at (x : FVec Ideal S4096x300 .f32) (w : FVec Ideal S300x300 .f32) (f : FVec Ideal S1x300 .f32)
    (β : Fin 300 → EReal) (r : Fin 4096) (hβ : ∀ j, ∑ i, x (ix2 r i) * w (ix2 i j) = β j) (hbot : ∀ j, ⊥ < β j) :
    k0_pay1 (F := Ideal) (k0_pay2 x w) (k0_pay3 x w) f (ix2 r 0)
      = rowKernel β (fun j => f (ix2 0 j)) fun j => (j : ℕ) < stop (peak β) := by
  have hw : ∀ j, k0_pay2 (F := Ideal) x w (ix2 r j) = expo β (fun l => (l : ℕ) < stop (peak β)) j := fun j => by
    rw [pay2_eq]
    exact weights_at _ β r (fun j => (blurred_at x w r j).trans (hβ j)) hbot j
  have hs : k0_pay3 (F := Ideal) x w (ix1 r) = ∑ j, k0_pay2 (F := Ideal) x w (ix2 r j) := by
    pointwise [k0_pay3]
  rw [pay1_at, hs, rowKernel]
  simp only [hw]

end Cert.KernelIdeal.Row

end
-- ==== Proof.Blur.lean ====
/- The blur of one row two ways: as a product with a banded matrix (the kernel), and as seven shifted copies of the
   padded row (the reference). -/
module

public import Idealize.ShloMosaic.PureOps
public import Idealize.ShloMosaic.PureOps.Ideal

@[expose] public section

noncomputable section

namespace Cert.Row

variable (x : Fin 300 → EReal) (k : Fin 7 → EReal)

/-- One tap's part of the banded matrix. -/
def tapAt (t : Fin 7) (i j : Fin 300) : EReal := if (i : ℕ) + 3 = j + t then k t else 0

/-- The banded matrix the kernel multiplies with, its seven taps added one after the other. -/
def band (i j : Fin 300) : EReal :=
  0 + tapAt k 0 i j + tapAt k 1 i j + tapAt k 2 i j + tapAt k 3 i j + tapAt k 4 i j + tapAt k 5 i j + tapAt k 6 i j

/-- The row with three zeros before it and after it. -/
def padded (n : ℕ) : EReal := if h : 3 ≤ n ∧ n < 303 then x ⟨n - 3, by omega⟩ else 0

/-- The blurred row as the reference adds it up. -/
def blur (j : Fin 300) : EReal :=
  0 + padded x (j + 0) * k 0 + padded x (j + 1) * k 1 + padded x (j + 2) * k 2 + padded x (j + 3) * k 3
    + padded x (j + 4) * k 4 + padded x (j + 5) * k 5 + padded x (j + 6) * k 6

/-- At most one tap reaches an entry of the banded matrix, so a product with the entry is the sum of the products
    with the taps. -/
theorem mul_band (i j : Fin 300) : x i * band k i j = ∑ t : Fin 7, x i * tapAt k t i j := by
  rw [Fin.sum_univ_seven]
  unfold band tapAt
  have : (i : ℕ) + 3 = j + 0 ∨ (i : ℕ) + 3 = j + 1 ∨ (i : ℕ) + 3 = j + 2 ∨ (i : ℕ) + 3 = j + 3
      ∨ (i : ℕ) + 3 = j + 4 ∨ (i : ℕ) + 3 = j + 5 ∨ (i : ℕ) + 3 = j + 6
      ∨ ((i : ℕ) + 3 < j ∨ (j : ℕ) + 6 < i + 3) := by omega
  rcases this with h | h | h | h | h | h | h | h
  · simp [h]
  · simp [h]
  · simp [h]
  · simp [h]
  · simp [h]
  · simp [h]
  · simp [h]
  · have e : ∀ t : Fin 7, ¬ ((i : ℕ) + 3 = j + t) := fun t => by omega
    simp only [e, if_false]
    simp

/-- One tap's column of the banded matrix picks one entry of the padded row. -/
theorem sum_tap (t : Fin 7) (j : Fin 300) : ∑ i, x i * tapAt k t i j = padded x (j + t) * k t := by
  unfold tapAt padded
  by_cases h : 3 ≤ (j : ℕ) + t ∧ (j : ℕ) + t < 303
  · rw [dif_pos h, Finset.sum_eq_single (⟨j + t - 3, by omega⟩ : Fin 300)]
    · rw [if_pos (by show (j : ℕ) + t - 3 + 3 = _; omega)]
    · intro i _ hi
      rw [if_neg fun e => hi (Fin.ext (by show (i : ℕ) = j + t - 3; omega)), mul_zero]
    · intro hn
      exact absurd (Finset.mem_univ _) hn
  · rw [dif_neg h, zero_mul]
    refine Finset.sum_eq_zero fun i _ => ?_
    rw [if_neg (by omega), mul_zero]

/-- The product with the banded matrix is the blurred row. -/
theorem sum_band (j : Fin 300) : ∑ i, x i * band k i j = blur x k j := by
  simp only [mul_band]
  rw [Finset.sum_comm]
  simp only [sum_tap]
  rw [Fin.sum_univ_seven, blur, zero_add]
  rfl

/-- A real row blurred by real taps is real. -/
theorem blur_real (ξ : Fin 300 → ℝ) (κ : Fin 7 → ℝ) (hx : ∀ i, x i = ξ i) (hk : ∀ t, k t = κ t) (j : Fin 300) :
    ∃ β : ℝ, blur x k j = β := by
  have hp : ∀ n, ∃ π : ℝ, padded x n = π := fun n => by
    unfold padded
    split
    · exact ⟨_, hx _⟩
    · exact ⟨0, rfl⟩
  choose π hπ using hp
  unfold blur
  simp only [hπ, hk]
  refine ⟨0 + π (j + 0) * κ 0 + π (j + 1) * κ 1 + π (j + 2) * κ 2 + π (j + 3) * κ 3
    + π (j + 4) * κ 4 + π (j + 5) * κ 5 + π (j + 6) * κ 6, ?_⟩
  simp only [EReal.coe_add, EReal.coe_mul, EReal.coe_zero]

end Cert.Row

end
-- ==== Proof.KernelHost.lean ====
/- What the kernel's host lines prepare before the region: the banded matrix of the blur, and the frequencies as one
   row. -/
module

public import proofs.«01_k».proof.Proof.Blur
public import proofs.«01_k».proof.Proof.Gen.KernelIdeal.Frame
public import Idealize.ShloMosaic.Lib.Pipeline.ValueKit

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

/-- Row number minus column number plus three, as words. -/
def offsets : IVec S300x300 32 :=
  addi (subi (broadcastInDim S300x300 ![0, 1] bcast_S300x1_S300x300_0_1 (broadcastInDim S300x1 ![0] bcast_S300_S300x1_0 (iotaInDim S300 32 0)))
      (broadcastInDim S300x300 ![0, 1] bcast_S1x300_S300x300_0_1 (broadcastInDim S1x300 ![1] bcast_S300_S1x300_1 (iotaInDim S300 32 0))))
    (broadcastInDim S300x300 ![] bcast_S_S300x300 (constantI S_ 32 3#32))

/-- One tap on the entries whose offset is `o`, zero elsewhere. -/
def oneTap (d : IVec S300x300 32) (o : BitVec 32) (s : FVec Ideal S1 .f32) : FVec Ideal S300x300 .f32 :=
  select (cmpi .eq d (broadcastInDim S300x300 ![] bcast_S_S300x300 (constantI S_ 32 o)))
    (broadcastInDim S300x300 ![] bcast_S_S300x300 (shapeCast S_ s shapeCasts_S1_S_))
    (broadcastInDim S300x300 ![] bcast_S_S300x300 (id (constant S_ .f32 0x00000000#32)))

/-- The banded matrix as the host lines add it up. -/
def matrix (k : FVec Ideal S7 .f32) : FVec Ideal S300x300 .f32 :=
  addf (addf (addf (addf (addf (addf (addf ((broadcastInDim S300x300 ![] bcast_S_S300x300 (constant S_ .f32 0x00000000#32) : FVec Ideal S300x300 .f32))
    (oneTap offsets 0#32 (extractStridedSlice S1 ![0] k slices_S7_S1_0)))
    (oneTap offsets 1#32 (extractStridedSlice S1 ![1] k slices_S7_S1_1)))
    (oneTap offsets 2#32 (extractStridedSlice S1 ![2] k slices_S7_S1_2)))
    (oneTap offsets 3#32 (extractStridedSlice S1 ![3] k slices_S7_S1_3)))
    (oneTap offsets 4#32 (extractStridedSlice S1 ![4] k slices_S7_S1_4)))
    (oneTap offsets 5#32 (extractStridedSlice S1 ![5] k slices_S7_S1_5)))
    (oneTap offsets 6#32 (extractStridedSlice S1 ![6] k slices_S7_S1_6))

/-- The offset at an entry. -/
theorem offsets_at (i j : Fin 300) : offsets (ix2 i j) = BitVec.ofNat 32 i - BitVec.ofNat 32 j + 3#32 := by
  pointwise [offsets]
  rfl

/-- The offset word is the tap's number exactly where row plus three is column plus tap. -/
theorem offset_eq (i j : Fin 300) (t : Fin 7) :
    BitVec.ofNat 32 i - BitVec.ofNat 32 j + 3#32 = BitVec.ofNat 32 t ↔ (i : ℕ) + 3 = j + t := by
  have hi := i.isLt
  have hj := j.isLt
  have ht := t.isLt
  rw [← BitVec.toNat_inj]
  simp only [BitVec.toNat_add, BitVec.toNat_sub, BitVec.toNat_ofNat]
  omega

/-- One tap's matrix at an entry: the tap where the offset is right, zero elsewhere. -/
theorem oneTap_at (d : IVec S300x300 32) (o : BitVec 32) (s : FVec Ideal S1 .f32) (i j : Fin 300) :
    oneTap d o s (ix2 i j) = Scalar.select (IntOp.cmpi .eq (d (ix2 i j)) o) (s (ix1 0)) 0 := by
  have h : (constant S_ .f32 0x00000000#32 : FVec Ideal S_ .f32) ix0 = 0 := Ideal.ofBits_zero_f32
  pointwise [oneTap]
  rw [id, h]

/-- An equality test of words selecting between two values. -/
theorem select_eq (a b : BitVec 32) (x y : EReal) : Scalar.select (IntOp.cmpi .eq a b) x y = if a = b then x else y := by
  by_cases h : a = b
  · simp [Scalar.select, IntOp.cmpi, h]
  · have h' : (a == b) = false := beq_eq_false_iff_ne.2 h
    simp [Scalar.select, IntOp.cmpi, h, h']

/-- One tap's matrix, over the offsets, is the tap on its diagonal. -/
theorem oneTap_offsets (k : Fin 7 → EReal) (s : FVec Ideal S1 .f32) (t : Fin 7) (hs : s (ix1 0) = k t) (i j : Fin 300) :
    oneTap offsets (BitVec.ofNat 32 t) s (ix2 i j) = tapAt k t i j := by
  rw [oneTap_at, select_eq, offsets_at, hs, tapAt]
  exact if_congr (offset_eq i j t) rfl rfl

/-- The prepared matrix is the band. -/
theorem matrix_at (k : FVec Ideal S7 .f32) (i j : Fin 300) : matrix k (ix2 i j) = band (fun t => k (ix1 t)) i j := by
  have h0 : (broadcastInDim S300x300 ![] bcast_S_S300x300 (constant S_ .f32 0x00000000#32) : FVec Ideal S300x300 .f32) (ix2 i j) = 0 :=
    Ideal.ofBits_zero_f32
  have e0 : oneTap offsets 0#32 (extractStridedSlice S1 ![0] k slices_S7_S1_0) (ix2 i j) = tapAt (fun t => k (ix1 t)) 0 i j :=
    oneTap_offsets (fun t => k (ix1 t)) _ 0 (by pointwise []) i j
  have e1 : oneTap offsets 1#32 (extractStridedSlice S1 ![1] k slices_S7_S1_1) (ix2 i j) = tapAt (fun t => k (ix1 t)) 1 i j :=
    oneTap_offsets (fun t => k (ix1 t)) _ 1 (by pointwise []) i j
  have e2 : oneTap offsets 2#32 (extractStridedSlice S1 ![2] k slices_S7_S1_2) (ix2 i j) = tapAt (fun t => k (ix1 t)) 2 i j :=
    oneTap_offsets (fun t => k (ix1 t)) _ 2 (by pointwise []) i j
  have e3 : oneTap offsets 3#32 (extractStridedSlice S1 ![3] k slices_S7_S1_3) (ix2 i j) = tapAt (fun t => k (ix1 t)) 3 i j :=
    oneTap_offsets (fun t => k (ix1 t)) _ 3 (by pointwise []) i j
  have e4 : oneTap offsets 4#32 (extractStridedSlice S1 ![4] k slices_S7_S1_4) (ix2 i j) = tapAt (fun t => k (ix1 t)) 4 i j :=
    oneTap_offsets (fun t => k (ix1 t)) _ 4 (by pointwise []) i j
  have e5 : oneTap offsets 5#32 (extractStridedSlice S1 ![5] k slices_S7_S1_5) (ix2 i j) = tapAt (fun t => k (ix1 t)) 5 i j :=
    oneTap_offsets (fun t => k (ix1 t)) _ 5 (by pointwise []) i j
  have e6 : oneTap offsets 6#32 (extractStridedSlice S1 ![6] k slices_S7_S1_6) (ix2 i j) = tapAt (fun t => k (ix1 t)) 6 i j :=
    oneTap_offsets (fun t => k (ix1 t)) _ 6 (by pointwise []) i j
  rw [band, ← h0, ← e0, ← e1, ← e2, ← e3, ← e4, ← e5, ← e6]
  rfl

section

variable (m : (ℓ : Loc nD τ sig) → Buf (Elt Ideal) ℓ) (c : Dev nD)

/-- At the region's entry the second window's array is the prepared matrix. -/
theorem entry_matrix : V m c main_v51 = matrix (m ((c : Thread nD τ).loc main_arg2)) := by
  entry_read
  rfl

/-- At the region's entry the third window's array is the frequencies as one row. -/
theorem entry_freqs : V m c main_v52 = (shapeCast S1x300 (m ((c : Thread nD τ).loc main_arg1) : FVec Ideal S300 .f32) shapeCasts_S300_S1x300 : FVec Ideal S1x300 .f32) := by
  entry_read
  rfl

end

/-- The frequencies as one row, read at a column. -/
theorem freqs_at (f : FVec Ideal S300 .f32) (j : Fin 300) : (shapeCast S1x300 f shapeCasts_S300_S1x300 : FVec Ideal S1x300 .f32) (ix2 0 j) = f (ix1 j) := by
  pointwise []

end Cert.KernelIdeal.Row

end
-- ==== Proof.KernelArray.lean ====
/- The kernel's result after its run: at every row the row's mean, as the kernel computes it. -/
module

public import proofs.«01_k».proof.Proof.KernelRow
public import proofs.«01_k».proof.Proof.KernelHost

@[expose] public section

set_option maxRecDepth 16384

noncomputable section

namespace Cert.KernelIdeal.Row

open Idealize.ShloMosaic Idealize.ShloMosaic.TcCoe Idealize.SL.Sem
open Idealize.ShloMosaic.Pipeline (Dat)
open Cert.KernelIdeal Cert.KernelIdeal.Gen Cert.Row

/-- Row `R` blurred. -/
def blurOf (x : FVec Ideal S65536x300 .f32) (k : FVec Ideal S7 .f32) (R : Fin 65536) (j : Fin 300) : EReal :=
  blur (fun i => x (ix2 R i)) (fun t => k (ix1 t)) j

/-- Row `R`'s mean as the kernel computes it. -/
def meanOf (x : FVec Ideal S65536x300 .f32) (f : FVec Ideal S300 .f32) (k : FVec Ideal S7 .f32) (R : Fin 65536) : EReal :=
  rowKernel (blurOf x k R) (fun j => f (ix1 j)) fun j => (j : ℕ) < stop (peak (blurOf x k R))

/-- The column of all rows' means. -/
def column (x : FVec Ideal S65536x300 .f32) (f : FVec Ideal S300 .f32) (k : FVec Ideal S7 .f32) : FVec Ideal S65536x1 .f32 :=
  fun i => meanOf x f k (i 0)

/-- What the body stores for a row of a block whose entries are those of row `R`. -/
theorem stored_eq (x : FVec Ideal S65536x300 .f32) (f : FVec Ideal S300 .f32) (k : FVec Ideal S7 .f32) (R : Fin 65536)
    (b : FVec Ideal S4096x300 .f32) (w : FVec Ideal S300x300 .f32) (g : FVec Ideal S1x300 .f32) (r : Fin 4096)
    (hb : ∀ j, b (ix2 r j) = x (ix2 R j)) (hw : ∀ i j, w (ix2 i j) = matrix k (ix2 i j)) (hg : ∀ j, g (ix2 0 j) = f (ix1 j))
    (hbot : ∀ j, ⊥ < blurOf x k R j) :
    (k0_pay1 (k0_pay2 b w) (k0_pay3 b w) g : FVec Ideal S4096x1 .f32) (ix2 r 0) = meanOf x f k R := by
  rw [stored_at b w g (blurOf x k R) r (fun j => ?_) hbot, meanOf]
  · simp only [hg]
  · simp only [hb, hw, matrix_at, blurOf]
    exact sum_band (fun i => x (ix2 R i)) (fun t => k (ix1 t)) j

section

variable (m : (ℓ : Loc nD τ sig) → Buf (Elt Ideal) ℓ) (c : Dev nD)

/-- Which block every window has at a point: the signals and the result move down with the point, the rest stays. -/
theorem idx : ∀ t : Fin cfg0.N, win0_0.index t 0 = (t : ℕ) ∧ win0_0.index t 1 = 0 ∧ win0_1.index t 0 = 0 ∧ win0_1.index t 1 = 0
    ∧ win0_2.index t 0 = 0 ∧ win0_2.index t 1 = 0 ∧ win0_3.index t 0 = (t : ℕ) ∧ win0_3.index t 1 = 0 := by
  decide +kernel

/-- The grid has sixteen points. -/
theorem count (t : Fin cfg0.N) : (t : ℕ) < 16 := t.isLt

/-- A block of the first window reads the rows below its point. -/
theorem block0 (t : Fin cfg0.N) (r : Fin 4096) (j : Fin 300) :
    iblk m c 0 t (ix2 r j) = m ((c : Thread nD τ).loc main_arg0) (ix2 ⟨(t : ℕ) * 4096 + r, by have := count t; omega⟩ j) := by
  rw [← V_main_arg0 m c]
  show ((cfg0.win 0).blk t).view.read (Elt Ideal) (V m c main_arg0) (ix2 r j) = _
  generalize V m c main_arg0 = A
  blk_ext [idx t]

/-- The second window's block is its whole array, -/
theorem block1 (t : Fin cfg0.N) (i j : Fin 300) :
    iblk m c 1 t (ix2 i j) = matrix (m ((c : Thread nD τ).loc main_arg2)) (ix2 i j) := by
  rw [← entry_matrix m c]
  show ((cfg0.win 1).blk t).view.read (Elt Ideal) (V m c main_v51) (ix2 i j) = _
  generalize V m c main_v51 = A
  blk_ext [idx t]

/-- and so is the third's. -/
theorem block2 (t : Fin cfg0.N) (j : Fin 300) :
    iblk m c 2 t (ix2 0 j) = m ((c : Thread nD τ).loc main_arg1) (ix1 j) := by
  refine Eq.trans ?_ (freqs_at (m ((c : Thread nD τ).loc main_arg1)) j)
  rw [← entry_freqs m c]
  show ((cfg0.win 2).blk t).view.read (Elt Ideal) (V m c main_v52) (ix2 0 j) = _
  generalize V m c main_v52 = A
  blk_ext [idx t]

/-- After the run the output window's array is the column of means, where no blurred entry is minus infinity. -/
theorem final (hbot : ∀ R j, ⊥ < blurOf (m ((c : Thread nD τ).loc main_arg0)) (m ((c : Thread nD τ).loc main_arg2)) R j) :
    (dats m 0 c).arrAt 3 cfg0.N
      = column (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  have ey : y = ix2 (y 0) 0 := by
    idx_vars y
    blk_ext
  have eR : (((View.whole main_v53).slice (win0_3.rect t)).emb y) 0 = (⟨(t : ℕ) * 4096 + (y 0 : ℕ), by have := count t; have : (y 0 : ℕ) < 4096 := (y 0).isLt; omega⟩ : Fin 65536) := by
    refine Fin.ext ?_
    blk_simp [idx t]
  rw [column, eR, ey]
  exact stored_eq _ _ _ _ (iblk m c 0 t) (iblk m c 1 t) (iblk m c 2 t) _ (block0 m c t (y 0)) (block1 m c t) (block2 m c t) (hbot _)

end

end Cert.KernelIdeal.Row

end
-- ==== Proof.ReferenceRow.lean ====
/- The reference's composed term, read at one row over the extended reals. -/
module

public import proofs.«01_k».proof.Proof.Gen.ReferenceIdeal.Run
public import proofs.«01_k».proof.Proof.Gen.ReferenceIdeal
public import proofs.«01_k».proof.Proof.Peaks
public import proofs.«01_k».proof.Proof.Soft
public import proofs.«01_k».proof.Proof.Blur
public import Idealize.ShloMosaic.Lib.Pointwise
public import Idealize.ShloMosaic.Lib.SortFacts
public import Idealize.ShloMosaic.Lib.IndicatorCount

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Value Cert.Row

/-! ## Words -/

/-- A small number read back from its word, signed. -/
theorem ofNat_toInt {n : ℕ} (h : n < 2 ^ 31) : (BitVec.ofNat 32 n).toInt = (n : ℤ) := by
  rw [BitVec.toInt_eq_toNat_of_lt] <;> rw [BitVec.toNat_ofNat] <;> omega

/-- Signed comparison of the words of small numbers. -/
theorem slt_ofNat {a c : ℕ} (ha : a < 2 ^ 31) (hc : c < 2 ^ 31) :
    IntOp.cmpi .slt (BitVec.ofNat 32 a) (BitVec.ofNat 32 c) = BitVec.ofBool (decide (a < c)) := by
  show BitVec.ofBool (BitVec.slt _ _) = _
  rw [BitVec.slt, ofNat_toInt ha, ofNat_toInt hc]
  congr 1
  exact decide_eq_decide.2 Int.ofNat_lt

/-- The test for at least two peaks. -/
theorem sge_two (n : ℕ) (h : n ≤ 300) : IntOp.cmpi .sge (BitVec.ofNat 32 n) 2#32 = BitVec.ofBool (decide (2 ≤ n)) := by
  have : ∀ n : Fin 301, IntOp.cmpi .sge (BitVec.ofNat 32 n) 2#32 = BitVec.ofBool (decide (2 ≤ (n : ℕ))) := by
    decide +kernel
  exact this ⟨n, by omega⟩

/-- A word's sign, as the reference computes it. -/
def signWord (x : BitVec 32) : BitVec 32 := if x = 0 then 0 else if BitVec.msb x = true then -1 else 1

/-- A word divided by a word, rounded down, as the reference computes it. -/
def floorDiv (x y : BitVec 32) : BitVec 32 :=
  Scalar.select
    (IntOp.andi (IntOp.cmpi .ne (signWord x) (signWord y)) (IntOp.cmpi .ne (IntOp.remsi .host x y) 0#32))
    (IntOp.subi (IntOp.divsi .host x y) 1#32) (IntOp.divsi .host x y)

/-- Floor division by two of the word of a number up to 600. -/
theorem floorDiv_two (n : ℕ) (h : n ≤ 600) : floorDiv (BitVec.ofNat 32 n) 2#32 = BitVec.ofNat 32 (n / 2) := by
  have : ∀ n : Fin 601, floorDiv (BitVec.ofNat 32 n) 2#32 = BitVec.ofNat 32 ((n : ℕ) / 2) := by
    decide +kernel
  exact this ⟨n, by omega⟩

/-- A select on a decided bit is a case distinction. -/
theorem select_decide {α : Type} (p : Prop) [Decidable p] (a c : α) :
    Scalar.select (BitVec.ofBool (decide p)) a c = if p then a else c := by
  by_cases h : p <;> simp [h, Scalar.select]

/-! ## The sort of one row -/

/-- Row `r`'s index at column `l`, reached from the one at column `k`. -/
def moved {n0 n1 : ℕ} (r : Fin n0) (k l : Fin n1) : (⟨2, ![n0, n1]⟩ : Shape).Idx :=
  Shape.Idx.along (s := ⟨2, ![n0, n1]⟩) (ix2 r k) (1 : Fin 2) l

/-- Moving along the second axis changes the second coordinate. -/
theorem moved_eq {n0 n1 : ℕ} (r : Fin n0) (k l : Fin n1) : moved r k l = ix2 r l := by
  funext a
  match a with
  | ⟨0, _⟩ => rfl
  | ⟨1, _⟩ => rfl

/-- A matrix sorted along its rows, read at an index. -/
theorem sort_at {n0 n1 : ℕ} {α : Type} (cmp : α → α → BitVec 1) (x : (⟨2, ![n0, n1]⟩ : Shape).Idx → α) (r : Fin n0) (k : Fin n1) :
    Host.sort ⟨2, ![n0, n1]⟩ 1 cmp x (ix2 r k)
      = x (ix2 r (sortedFrom (fun l l' : Fin n1 => cmp (x (ix2 r l)) (x (ix2 r l')) == 1#1) k)) := by
  have h : Host.sort ⟨2, ![n0, n1]⟩ 1 cmp x (ix2 r k)
      = x (moved r k (sortedFrom (fun l l' : Fin n1 => cmp (x (moved r k l)) (x (moved r k l')) == 1#1) k)) := by
    unfold Host.sort
    exact dif_pos (show 1 < 2 by decide)
  rw [h]
  simp only [moved_eq]

/-- A row of small numbers, sorted: some rearrangement of its columns puts the numbers in order. -/
theorem sort_row (x : IVec S65536x300 32) (r : Fin 65536) (p : Fin 300 → ℕ) (hp : ∀ j, p j ≤ 300)
    (hx : ∀ j, x (ix2 r j) = BitVec.ofNat 32 (p j)) :
    ∃ σ : Fin 300 → Fin 300, Function.Bijective σ ∧ (∀ k k', k < k' → p (σ k) ≤ p (σ k'))
      ∧ ∀ k, Host.sort S65536x300 1 comparator_i32_d1 x (ix2 r k) = BitVec.ofNat 32 (p (σ k)) := by
  let R : Fin 300 → Fin 300 → Bool := fun k k' => decide (p k < p k')
  refine ⟨sortedFrom R, ⟨sortedFrom_injective R, sortedFrom_surjective R⟩, fun k k' h => ?_, fun k => ?_⟩
  · have := sortedFrom_noInversion R R (fun a b h => ?_) (fun _ _ h => h) (fun a b c h1 h2 => ?_) k k' h
    · have h3 : ¬ p (sortedFrom R k') < p (sortedFrom R k) := of_decide_eq_false this
      omega
    · have h1 : p a < p b := of_decide_eq_true h
      exact decide_eq_false (by omega)
    · have h1' : ¬ p a < p b := of_decide_eq_false h1
      have h2' : ¬ p b < p c := of_decide_eq_false h2
      exact decide_eq_false (by omega)
  · have e : (fun l l' : Fin 300 => comparator_i32_d1 (x (ix2 r l)) (x (ix2 r l')) == 1#1) = R := by
      funext l l'
      rw [hx, hx]
      show (IntOp.cmpi .slt _ _ == 1#1) = decide (p l < p l')
      rw [slt_ofNat (by have := hp l; omega) (by have := hp l'; omega)]
      by_cases h : p l < p l' <;> simp [h]
    refine (sort_at comparator_i32_d1 x r k).trans ?_
    rw [e, hx]

/-! ## The term, piece by piece -/

/-- Each entry's column at a peak, 300 elsewhere. -/
def peakWord (pk : IVec S65536x300 1) : IVec S65536x300 32 :=
  select pk (broadcastInDim S65536x300 ![1] bcast_S300_S65536x300_1 (iotaInDim S300 32 0))
    (broadcastInDim S65536x300 ![1] bcast_S300_S65536x300_1 (broadcastInDim S300 ![] bcast_S_S300 (id (constantI S_ 32 300#32))))

/-- Each row's two least entries. -/
def leastTwo (v : IVec S65536x300 32) : IVec S65536x2 32 :=
  extractStridedSlice S65536x2 ![0, 0] (Host.sort S65536x300 1 comparator_i32_d1 v) slices_S65536x300_S65536x2_0_0

/-- Their sum. -/
def sumTwo (v : IVec S65536x2 32) : IVec S65536 32 :=
  addi (shapeCast _ (extractStridedSlice S65536x1 ![0, 0] v slices_S65536x2_S65536x1_0_0) shapeCasts_S65536x1_S65536)
    (shapeCast _ (extractStridedSlice S65536x1 ![0, 1] v slices_S65536x2_S65536x1_0_1) shapeCasts_S65536x1_S65536)

/-- Half of a row of words, rounded down. -/
def halved (v : IVec S65536 32) : IVec S65536 32 :=
  select (andi (cmpi .ne (signi v) (broadcastInDim S65536 ![] bcast_S_S65536 (signi (id (constantI S_ 32 2#32)))))
      (cmpi .ne (Host.remsi v (broadcastInDim S65536 ![] bcast_S_S65536 (id (constantI S_ 32 2#32)))) (broadcastInDim S65536 ![] bcast_S_S65536 (constantI S_ 32 0#32))))
    (subi (Host.divsi v (broadcastInDim S65536 ![] bcast_S_S65536 (id (constantI S_ 32 2#32)))) (broadcastInDim S65536 ![] bcast_S_S65536 (constantI S_ 32 1#32)))
    (Host.divsi v (broadcastInDim S65536 ![] bcast_S_S65536 (id (constantI S_ 32 2#32))))

/-- How many peaks each row has. -/
def peakCount (pk : IVec S65536x300 1) : IVec S65536 32 :=
  Host.reduce IntOp.addi (extui 32 pk natLt_1_32) (constantI S_ 32 0#32) reducesTo_S65536x300_S65536_d1 h_S_

/-- Where each row's window stops, from the count and the halved sum. -/
def stopWord (n h : IVec S65536 32) : IVec S65536 32 :=
  select (cmpi .sge n (broadcastInDim S65536 ![] bcast_S_S65536 (constantI S_ 32 2#32))) h
    (broadcastInDim S65536 ![] bcast_S_S65536 (id (constantI S_ 32 299#32)))

/-- The logits, from the blurred rows and the stops. -/
def logits (b : FVec Ideal S65536x300 .f32) (s : IVec S65536 32) : FVec Ideal S65536x300 .f32 :=
  select (cmpi .slt (broadcastInDim S65536x300 ![0, 1] bcast_S1x300_S65536x300_0_1 (broadcastInDim S1x300 ![1] bcast_S300_S1x300_1 (iotaInDim S300 32 0)))
      (broadcastInDim S65536x300 ![0, 1] bcast_S65536x1_S65536x300_0_1 (broadcastInDim S65536x1 ![0] bcast_S65536_S65536x1_0 s)))
    (mulf b (broadcastInDim S65536x300 ![] bcast_S_S65536x300 (constant S_ .f32 0x3F800000#32)))
    (broadcastInDim S65536x300 ![1] bcast_S300_S65536x300_1 (broadcastInDim S300 ![] bcast_S_S300 (id (constant S_ .f32 0xFF800000#32))))

/-- The exponentials, each row's greatest logit taken off. -/
def expos (l : FVec Ideal S65536x300 .f32) : FVec Ideal S65536x300 .f32 :=
  Host.exp (subf l (broadcastInDim S65536x300 ![0, 1] bcast_S65536x1_S65536x300_0_1 (broadcastInDim S65536x1 ![0] bcast_S65536_S65536x1_0
    (maximumf (broadcastInDim S65536 ![] bcast_S_S65536 (constant S_ .f32 0xFF800000#32))
      (Host.reduce FloatOps.maximumf l (constant S_ .f32 0xFF800000#32) reducesTo_S65536x300_S65536_d1 h_S_)))))

/-- Minus the frequencies' mean at the normalised exponentials. -/
def mean (e : FVec Ideal S65536x300 .f32) (f : FVec Ideal S300 .f32) : FVec Ideal S65536 .f32 :=
  Host.negf (Host.dotGeneral dot_S65536x300_S300_S65536_1_0_0_n_n_n none (Host.divf e (broadcastInDim S65536x300 ![0, 1] bcast_S65536x1_S65536x300_0_1 (broadcastInDim S65536x1 ![0] bcast_S65536_S65536x1_0 (Host.reduceAdd e (constant S_ .f32 0x00000000#32) reducesTo_S65536x300_S65536_d1 h_S_)))) f)

/-! ## Read at an index -/

/-- An entry's column word where it is a peak, 300 elsewhere. -/
theorem peakWord_at (pk : IVec S65536x300 1) (r : Fin 65536) (j : Fin 300) :
    peakWord pk (ix2 r j) = Scalar.select (pk (ix2 r j)) (BitVec.ofNat 32 j) 300#32 := by
  pointwise [peakWord]
  rfl

/-- The first two entries of the sorted row. -/
theorem leastTwo_at (v : IVec S65536x300 32) (r : Fin 65536) (j : Fin 2) :
    leastTwo v (ix2 r j) = Host.sort S65536x300 1 comparator_i32_d1 v (ix2 r ⟨j, by omega⟩) := by
  pointwise [leastTwo]

/-- Their sum. -/
theorem sumTwo_at (v : IVec S65536x2 32) (r : Fin 65536) : sumTwo v (ix1 r) = IntOp.addi (v (ix2 r 0)) (v (ix2 r 1)) := by
  pointwise [sumTwo]

/-- Half of a sum, rounded down. -/
theorem halved_at (v : IVec S65536 32) (r : Fin 65536) : halved v (ix1 r) = floorDiv (v (ix1 r)) 2#32 := by
  pointwise [halved, floorDiv, signWord]
  rfl

/-- The number of peaks of a row. -/
theorem peakCount_at (pk : IVec S65536x300 1) (r : Fin 65536) :
    peakCount pk (ix1 r) = BitVec.ofNat 32 (Finset.univ.filter fun j : Fin 300 => pk (ix2 r j) = 1#1).card := by
  rw [peakCount, Host.reduce_eq_fold]
  refine (reducesTo_S65536x300_S65536_d1.fold_fiber_r2_a1 (ix1 r) _ _ _).trans ?_
  exact IndicatorCount.fold_addi_setWidth_eq_card (fun j : Fin 300 => pk (ix2 r j)) Finset.univ

/-- The midpoint where there are two peaks, 299 elsewhere. -/
theorem stopWord_at (n h : IVec S65536 32) (r : Fin 65536) :
    stopWord n h (ix1 r) = Scalar.select (IntOp.cmpi .sge (n (ix1 r)) 2#32) (h (ix1 r)) 299#32 := by
  pointwise [stopWord]
  rfl

/-- The word of minus infinity. -/
theorem ofBits_bot : Ideal.ofBits .f32 0xFF800000#32 = ⊥ := by
  simp [Ideal.ofBits, Ideal.ieee]

/-- A logit: the entry inside the window, minus infinity outside. -/
theorem logits_at (b : FVec Ideal S65536x300 .f32) (s : IVec S65536 32) (r : Fin 65536) (j : Fin 300) :
    logits b s (ix2 r j) = Scalar.select (IntOp.cmpi .slt (BitVec.ofNat 32 j) (s (ix1 r))) (b (ix2 r j)) ⊥ := by
  pointwise [logits]
  rw [← ofBits_bot]
  rfl

/-- A row's greatest logit. -/
theorem rowMax_at (l : FVec Ideal S65536x300 .f32) (r : Fin 65536) :
    Host.reduce FloatOps.maximumf l (constant S_ .f32 0xFF800000#32) reducesTo_S65536x300_S65536_d1 h_S_ (ix1 r)
      = Finset.univ.fold max ⊥ fun j : Fin 300 => l (ix2 r j) := by
  rw [Host.reduce_eq_fold]
  refine (reducesTo_S65536x300_S65536_d1.fold_fiber_r2_a1 (ix1 r) _ _ _).trans ?_
  rw [← ofBits_bot]
  rfl

/-- The exponential of an entry less a number of its row. -/
theorem exp_sub_at (l : FVec Ideal S65536x300 .f32) (m : FVec Ideal S65536 .f32) (r : Fin 65536) (j : Fin 300) :
    Host.exp (subf l (broadcastInDim S65536x300 ![0, 1] bcast_S65536x1_S65536x300_0_1 (broadcastInDim S65536x1 ![0] bcast_S65536_S65536x1_0
      (maximumf (broadcastInDim S65536 ![] bcast_S_S65536 (constant S_ .f32 0xFF800000#32)) m)))) (ix2 r j)
      = Ideal.exp (l (ix2 r j) - max ⊥ (m (ix1 r))) := by
  pointwise [ofBits_bot]

/-- An exponential, the row's greatest logit taken off first. -/
theorem expos_at (l : FVec Ideal S65536x300 .f32) (r : Fin 65536) (j : Fin 300) :
    expos l (ix2 r j) = Ideal.exp (l (ix2 r j) - max ⊥ (Finset.univ.fold max ⊥ fun j : Fin 300 => l (ix2 r j))) := by
  rw [expos, exp_sub_at, rowMax_at]

/-- Minus the mean of the frequencies by the weights. -/
theorem mean_at (e : FVec Ideal S65536x300 .f32) (f : FVec Ideal S300 .f32) (r : Fin 65536) :
    mean e f (ix1 r) = -∑ j, Ideal.div (e (ix2 r j)) (∑ l, e (ix2 r l)) * f (ix1 j) := by
  pointwise [mean]

end Cert.ReferenceIdeal.Row

end
-- ==== Proof.ReferenceValue.lean ====
/- The reference's result, read at one row: the row's mean by the plain formula. -/
module

public import proofs.«01_k».proof.Proof.ReferenceRow

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Value Cert.Row

/-- The rows with three zeros on either side. -/
def widened (x : FVec Ideal S65536x300 .f32) : FVec Ideal S65536x306 .f32 :=
  pad S65536x306 ![0, 3] ![0, 3] ![0, 0] x (sitofp .f32 (constantI S_ 32 0#32)) pads_S65536x300_S65536x306_000_330 h_S_

/-- The blurred rows, from the widened ones. -/
def blurs (p : FVec Ideal S65536x306 .f32) (k : FVec Ideal S7 .f32) : FVec Ideal S65536x300 .f32 :=
  addf (addf (addf (addf (addf (addf (addf (broadcastInDim S65536x300 ![] bcast_S_S65536x300 (constant S_ .f32 0x00000000#32))
    (mulf (extractStridedSlice S65536x300 ![0, 0] p slices_S65536x306_S65536x300_0_0) (broadcastInDim S65536x300 ![] bcast_S_S65536x300 (shapeCast _ (extractStridedSlice S1 ![0] k slices_S7_S1_0) shapeCasts_S1_S_))))
    (mulf (extractStridedSlice S65536x300 ![0, 1] p slices_S65536x306_S65536x300_0_1) (broadcastInDim S65536x300 ![] bcast_S_S65536x300 (shapeCast _ (extractStridedSlice S1 ![1] k slices_S7_S1_1) shapeCasts_S1_S_))))
    (mulf (extractStridedSlice S65536x300 ![0, 2] p slices_S65536x306_S65536x300_0_2) (broadcastInDim S65536x300 ![] bcast_S_S65536x300 (shapeCast _ (extractStridedSlice S1 ![2] k slices_S7_S1_2) shapeCasts_S1_S_))))
    (mulf (extractStridedSlice S65536x300 ![0, 3] p slices_S65536x306_S65536x300_0_3) (broadcastInDim S65536x300 ![] bcast_S_S65536x300 (shapeCast _ (extractStridedSlice S1 ![3] k slices_S7_S1_3) shapeCasts_S1_S_))))
    (mulf (extractStridedSlice S65536x300 ![0, 4] p slices_S65536x306_S65536x300_0_4) (broadcastInDim S65536x300 ![] bcast_S_S65536x300 (shapeCast _ (extractStridedSlice S1 ![4] k slices_S7_S1_4) shapeCasts_S1_S_))))
    (mulf (extractStridedSlice S65536x300 ![0, 5] p slices_S65536x306_S65536x300_0_5) (broadcastInDim S65536x300 ![] bcast_S_S65536x300 (shapeCast _ (extractStridedSlice S1 ![5] k slices_S7_S1_5) shapeCasts_S1_S_))))
    (mulf (extractStridedSlice S65536x300 ![0, 6] p slices_S65536x306_S65536x300_0_6) (broadcastInDim S65536x300 ![] bcast_S_S65536x300 (shapeCast _ (extractStridedSlice S1 ![6] k slices_S7_S1_6) shapeCasts_S1_S_)))

/-- The widened row at an entry: zero in the margins. -/
theorem widened_at (x : FVec Ideal S65536x300 .f32) (r : Fin 65536) (n : ℕ) (h : n < 306) :
    widened x (ix2 r ⟨n, h⟩) = padded (fun i => x (ix2 r i)) n := by
  have hz : (FloatOps.sitofp (F := Ideal) .f32 (0#32 : BitVec 32) : EReal) = 0 := by
    simp [FloatOps.sitofp]
  have h1 : widened x (ix2 r ⟨n, h⟩) =
      if h' : 3 ≤ n ∧ n - 3 < 300 then x (ix2 r ⟨n - 3, h'.2⟩) else FloatOps.sitofp (F := Ideal) .f32 (0#32 : BitVec 32) := by
    pointwise [widened]
  rw [h1, hz, padded]
  by_cases h' : 3 ≤ n ∧ n < 303
  · rw [dif_pos h', dif_pos ⟨h'.1, by omega⟩]
  · rw [dif_neg h', dif_neg (by omega)]

/-- The seven shifted products at an entry. -/
theorem blurs_at (p : FVec Ideal S65536x306 .f32) (k : FVec Ideal S7 .f32) (r : Fin 65536) (j : Fin 300) :
    blurs p k (ix2 r j) =
      p (ix2 r ⟨j, by omega⟩) * k (ix1 0) + p (ix2 r ⟨1 + j, by omega⟩) * k (ix1 1)
        + p (ix2 r ⟨2 + j, by omega⟩) * k (ix1 2) + p (ix2 r ⟨3 + j, by omega⟩) * k (ix1 3)
        + p (ix2 r ⟨4 + j, by omega⟩) * k (ix1 4) + p (ix2 r ⟨5 + j, by omega⟩) * k (ix1 5)
        + p (ix2 r ⟨6 + j, by omega⟩) * k (ix1 6) := by
  pointwise [blurs]

/-- The blurred rows are the plain blur of each row. -/
theorem blurs_widened (x : FVec Ideal S65536x300 .f32) (k : FVec Ideal S7 .f32) (r : Fin 65536) (j : Fin 300) :
    blurs (widened x) k (ix2 r j) = blur (fun i => x (ix2 r i)) (fun t => k (ix1 t)) j := by
  rw [blurs_at]
  simp only [widened_at, blur, zero_add, Nat.add_comm (j : ℕ), Nat.zero_add]

/-- Which entries of the blurred rows are peaks. -/
def peaks (b : FVec Ideal S65536x300 .f32) : IVec S65536x300 1 :=
  concatenate S65536x300 1 [⟨S65536x1, ((cmpf .ogt (extractStridedSlice S65536x1 ![0, 0] b slices_S65536x300_S65536x1_0_0) (extractStridedSlice S65536x1 ![0, 1] b slices_S65536x300_S65536x1_0_1)) : IVec S65536x1 1)⟩,
    ⟨S65536x298, (andi (cmpf .ogt (extractStridedSlice S65536x298 ![0, 1] b slices_S65536x300_S65536x298_0_1) (extractStridedSlice S65536x298 ![0, 0] b slices_S65536x300_S65536x298_0_0)) (cmpf .ogt (extractStridedSlice S65536x298 ![0, 1] b slices_S65536x300_S65536x298_0_1) (extractStridedSlice S65536x298 ![0, 2] b slices_S65536x300_S65536x298_0_2)) : IVec S65536x298 1)⟩,
    ⟨S65536x1, ((cmpf .ogt (extractStridedSlice S65536x1 ![0, 299] b slices_S65536x300_S65536x1_0_299) (extractStridedSlice S65536x1 ![0, 298] b slices_S65536x300_S65536x1_0_298)) : IVec S65536x1 1)⟩]
    concatenates_S65536x1_S65536x298_S65536x1_S65536x300_d1

/-- The peak test at an entry: the ends of the row have one neighbour each. -/
theorem peaks_at (b : FVec Ideal S65536x300 .f32) (β : Fin 300 → EReal) (r : Fin 65536) (hβ : ∀ j, b (ix2 r j) = β j) (j : Fin 300) :
    peaks b (ix2 r j) = BitVec.ofBool (decide (peak β j)) := by
  have h1 : peaks b (ix2 r j) =
      if h : (j : ℕ) < 1 then BitVec.ofBool (decide (β ⟨1 + j, by omega⟩ < β j))
      else if h' : (j : ℕ) - 1 < 298 then
        IntOp.andi (BitVec.ofBool (decide (β ⟨j - 1, by omega⟩ < β ⟨1 + (j - 1), by omega⟩)))
          (BitVec.ofBool (decide (β ⟨2 + (j - 1), by omega⟩ < β ⟨1 + (j - 1), by omega⟩)))
      else BitVec.ofBool (decide (β ⟨298 + (j - 1 - 298), by omega⟩ < β ⟨299 + (j - 1 - 298), by omega⟩)) := by
    pointwise [peaks, hβ]
  have h2 : ∀ p q : Bool, IntOp.andi (BitVec.ofBool p) (BitVec.ofBool q) = BitVec.ofBool (p && q) := by decide
  rw [h1]
  unfold peak
  by_cases h : (j : ℕ) < 1
  · rw [dif_pos h]
    congr 1
    refine decide_eq_decide.2 ?_
    have e : (⟨1 + j, by omega⟩ : Fin 300) = ⟨j + 1, by omega⟩ := Fin.ext (Nat.add_comm _ _)
    rw [e]
    exact ⟨fun h' => ⟨fun h0 => absurd h0 (by omega), fun _ => h'⟩, fun h' => h'.2 (by omega)⟩
  · rw [dif_neg h]
    by_cases h' : (j : ℕ) - 1 < 298
    · rw [dif_pos h', h2, ← Bool.decide_and]
      congr 1
      refine decide_eq_decide.2 ?_
      have e1 : (⟨1 + (j - 1), by omega⟩ : Fin 300) = j := Fin.ext (by show 1 + ((j : ℕ) - 1) = j; omega)
      have e2 : (⟨2 + (j - 1), by omega⟩ : Fin 300) = ⟨j + 1, by omega⟩ := Fin.ext (by show 2 + ((j : ℕ) - 1) = j + 1; omega)
      rw [e1, e2]
      exact ⟨fun h' => ⟨fun _ => h'.1, fun _ => h'.2⟩, fun h' => ⟨h'.1 (by omega), h'.2 (by omega)⟩⟩
    · rw [dif_neg h']
      congr 1
      refine decide_eq_decide.2 ?_
      have e1 : (⟨298 + (j - 1 - 298), by omega⟩ : Fin 300) = ⟨j - 1, by omega⟩ := Fin.ext (by show 298 + ((j : ℕ) - 1 - 298) = j - 1; omega)
      have e2 : (⟨299 + (j - 1 - 298), by omega⟩ : Fin 300) = j := Fin.ext (by show 299 + ((j : ℕ) - 1 - 298) = j; omega)
      rw [e1, e2]
      exact ⟨fun h' => ⟨fun _ => h', fun h0 => absurd h0 (by omega)⟩, fun h' => h'.1 (by omega)⟩

/-- The words the window's stop is computed from, over the peaks. -/
def stops (pk : IVec S65536x300 1) : IVec S65536 32 :=
  stopWord (peakCount pk) (halved (sumTwo (leastTwo (peakWord pk))))

/-- The stop word of a row is the stop of the row's peaks. -/
theorem stops_at (pk : IVec S65536x300 1) (r : Fin 65536) (P : Fin 300 → Prop) [DecidablePred P]
    (hP : ∀ j, pk (ix2 r j) = BitVec.ofBool (decide (P j))) : stops pk (ix1 r) = BitVec.ofNat 32 (stop P) := by
  have hw : ∀ j, peakWord pk (ix2 r j) = BitVec.ofNat 32 (posn P j) := fun j => by
    rw [peakWord_at, hP, select_decide, posn, apply_ite (BitVec.ofNat 32)]
  obtain ⟨σ, hσ, hs, hsort⟩ := sort_row (peakWord pk) r (posn P) (posn_le P) hw
  have hone : ∀ p : Prop, [Decidable p] → (BitVec.ofBool (decide p) = 1#1 ↔ p) := fun p _ => by
    by_cases h : p <;> simp [h]
  have hcount : peakCount pk (ix1 r) = BitVec.ofNat 32 (Finset.univ.filter fun j => P j).card := by
    rw [peakCount_at]
    congr 2
    refine Finset.filter_congr fun j _ => ?_
    rw [hP]
    exact hone _
  have hcard : (Finset.univ.filter fun j => P j).card ≤ 300 :=
    (Finset.card_le_univ _).trans (Fintype.card_fin 300).le
  rw [stops, stopWord_at, hcount, sge_two _ hcard, select_decide, stop]
  simp only [second_lt_iff]
  by_cases h : 2 ≤ (Finset.univ.filter fun j => P j).card
  · rw [if_pos h, if_pos h, halved_at, sumTwo_at, leastTwo_at, leastTwo_at]
    have h0 : Host.sort S65536x300 1 comparator_i32_d1 (peakWord pk) (ix2 r ⟨((0 : Fin 2) : ℕ), by decide⟩) = BitVec.ofNat 32 (firstPos P) :=
      (hsort 0).trans (congrArg _ (sorted_first P σ hσ.2 hs))
    have h1 : Host.sort S65536x300 1 comparator_i32_d1 (peakWord pk) (ix2 r ⟨((1 : Fin 2) : ℕ), by decide⟩) = BitVec.ofNat 32 (secondPos P) :=
      (hsort 1).trans (congrArg _ (sorted_second P σ hσ hs ((second_lt_iff P).2 h)))
    rw [h0, h1, ← floorDiv_two _ (by have := firstPos_le P; have := secondPos_le P; omega), BitVec.ofNat_add]
    rfl
  · rw [if_neg h, if_neg h]

/-- The whole result, from the arguments. -/
def result (x : FVec Ideal S65536x300 .f32) (f : FVec Ideal S300 .f32) (k : FVec Ideal S7 .f32) : FVec Ideal S65536 .f32 :=
  mean (expos (logits (blurs (widened x) k) (stops (peaks (blurs (widened x) k))))) f

/-- The reference's result at a row, from the blurred row. -/
theorem result_at (x : FVec Ideal S65536x300 .f32) (f : FVec Ideal S300 .f32) (k : FVec Ideal S7 .f32) (r : Fin 65536)
    (β : Fin 300 → EReal) (hβ : ∀ j, blur (fun i => x (ix2 r i)) (fun t => k (ix1 t)) j = β j) :
    result x f k (ix1 r) = rowReference β (fun j => f (ix1 j)) fun j => (j : ℕ) < stop (peak β) := by
  have hb : ∀ j, blurs (widened x) k (ix2 r j) = β j := fun j => (blurs_widened x k r j).trans (hβ j)
  have hs : stops (peaks (blurs (widened x) k)) (ix1 r) = BitVec.ofNat 32 (stop (peak β)) :=
    stops_at _ r (peak β) (peaks_at _ β r hb)
  rw [result]
  generalize blurs (widened x) k = b at hb hs ⊢
  generalize stops (peaks b) = s at hs ⊢
  have hl : ∀ j, logits b s (ix2 r j) = logit β (fun j => (j : ℕ) < stop (peak β)) j := fun j => by
    have := stop_le (peak β)
    rw [logits_at, hs, hb, slt_ofNat (by omega) (by omega), select_decide, logit]
  have he : ∀ j, expos (logits b s) (ix2 r j) = expoMax β (fun j => (j : ℕ) < stop (peak β)) j := fun j => by
    rw [expos_at, expoMax]
    simp only [hl]
  rw [mean_at, rowReference]
  simp only [he]

/-- The generated run's term is the whole result. -/
theorem term_eq (V0 : Valuation τ sig (Elt Ideal)) :
    (Host.negf (Host.dotGeneral (φ₂ := .f32) dot_S65536x300_S300_S65536_1_0_0_n_n_n none (Host.divf (res_main_v88 V0) (broadcastInDim S65536x300 ![0, 1] bcast_S65536x1_S65536x300_0_1 (broadcastInDim S65536x1 ![0] bcast_S65536_S65536x1_0 (Host.reduceAdd (res_main_v88 V0) (constant S_ .f32 0x00000000#32) reducesTo_S65536x300_S65536_d1 h_S_)))) (V0 (Proc.devRef .tc main_arg1))) : FVec Ideal S65536 .f32)
      = result (V0 (Proc.devRef .tc main_arg0)) (V0 (Proc.devRef .tc main_arg1)) (V0 (Proc.devRef .tc main_arg2)) := rfl

end Cert.ReferenceIdeal.Row

end
-- ==== Proof.Values.lean ====
/- The value claim: the kernel and the reference end with the same row means. -/
module

public import proofs.«01_k».proof.Defs
public import proofs.«01_k».proof.Proof.Finite
public import proofs.«01_k».proof.Proof.KernelArray
public import proofs.«01_k».proof.Proof.ReferenceValue
public import proofs.«01_k».proof.Proof.Gen.ReferenceIdeal.Run
public import Idealize.ShloMosaic.Lib.Claim

@[expose] public section

set_option maxRecDepth 16384

noncomputable section

namespace Cert.Values

open Idealize.ShloMosaic Idealize.ShloMosaic.TcCoe Idealize.SL.Sem
open Cert.Row

section

open Cert.KernelIdeal Cert.KernelIdeal.Gen Cert.KernelIdeal.Row

variable (m : (ℓ : Loc nD τ sig) → Buf (Elt Ideal) ℓ) (c : Dev nD)

/-- The kernel's result is its output window's array as one row of 65536 entries. -/
theorem tail_eq : Pipeline.afterTail₀ cfgs (dats m) 0 (V0 m) [hostOps1] c main_v54
    = (shapeCast S65536 ((dats m 0 c).arrAt 3 cfg0.N : FVec Ideal S65536x1 .f32) shapeCasts_S65536x1_S65536 : FVec Ideal S65536 .f32) := by
  have harr : Pipeline.withArrays (cfgs 0).spec c (V0 m c) (fun w => (dats m 0 c).arrAt w (cfgs 0).N) (Proc.devRef .tc main_v53)
      = (dats m 0 c).arrAt 3 cfg0.N :=
    Pipeline.withArrays_arr (cfgs 0).spec (by decide) c (V0 m c) (fun w => (dats m 0 c).arrAt w (cfgs 0).N) 3
  unfold Pipeline.afterTail₀
  generalize Pipeline.withArrays (cfgs 0).spec c (V0 m c) (fun w => (dats m 0 c).arrAt w (cfgs 0).N) = W at harr ⊢
  rw [← harr]
  after_results
  rfl

/-- A column read as one row. -/
theorem column_at (v : FVec Ideal S65536x1 .f32) (R : Fin 65536) :
    (shapeCast S65536 v shapeCasts_S65536x1_S65536 : FVec Ideal S65536 .f32) (ix1 R) = v (ix2 R 0) := by
  pointwise []

/-- The kernel's run: the result at the row means as it computes them, the arguments unchanged. -/
theorem run_kernel (g : Dev nD → PrngReg)
    (hbot : ∀ c : Dev nD, ∀ R j, ⊥ < blurOf (m ((c : Thread nD τ).loc main_arg0)) (m ((c : Thread nD τ).loc main_arg2)) R j) :
    θ_run defs (onTc (τ := τ) (main (F := Ideal))) ⟨m, fun _ => 0, g⟩ fun r => ∀ c : Dev nD,
      r.2.mem ((c.tc : Thread nD τ).loc main_v54)
        = (shapeCast S65536 (column (m ((c : Thread nD τ).loc main_arg0)) (m ((c : Thread nD τ).loc main_arg1)) (m ((c : Thread nD τ).loc main_arg2))) shapeCasts_S65536x1_S65536 : FVec Ideal S65536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).2 main_v54 (Pipeline.mem_restRefs_of main_v54 (by decide) (by decide))).trans
    ((tail_eq m c).trans (by rw [final m c (hbot c)])), h.2 c⟩) (θ_run_and (run_main m g) (unchanged m g))

end

/-- A row whose entries and taps are real numbers has the same mean in the kernel and in the reference. -/
theorem mean_eq (x : FVec Ideal Cert.KernelIdeal.S65536x300 .f32) (f : FVec Ideal Cert.KernelIdeal.S300 .f32) (k : FVec Ideal Cert.KernelIdeal.S7 .f32)
    (hx : ∀ i, ∃ ρ : ℝ, x i = ρ) (hk : ∀ i, ∃ ρ : ℝ, k i = ρ) (R : Fin 65536) :
    Cert.KernelIdeal.Row.meanOf x f k R = Cert.ReferenceIdeal.Row.result x f k (ix1 R) := by
  choose ξ hξ using hx
  choose κ hκ using hk
  choose β hβ using blur_real (fun i => x (ix2 R i)) (fun t => k (ix1 t)) _ _ (fun i => hξ (ix2 R i)) (fun t => hκ (ix1 t))
  rw [Cert.ReferenceIdeal.Row.result_at x f k R (Cert.KernelIdeal.Row.blurOf x k R) fun j => rfl]
  exact rowKernel_eq_rowReference _ _ _ β hβ ⟨0, by decide⟩ (one_le_stop _)

/-- The two results over the whole array of rows. -/
theorem rows_eq (x : FVec Ideal Cert.KernelIdeal.S65536x300 .f32) (f : FVec Ideal Cert.KernelIdeal.S300 .f32) (k : FVec Ideal Cert.KernelIdeal.S7 .f32)
    (hx : ∀ i, ∃ ρ : ℝ, x i = ρ) (hk : ∀ i, ∃ ρ : ℝ, k i = ρ) :
    (shapeCast Cert.KernelIdeal.S65536 (Cert.KernelIdeal.Row.column x f k) Cert.KernelIdeal.Gen.shapeCasts_S65536x1_S65536 : FVec Ideal Cert.KernelIdeal.S65536 .f32)
      = Cert.ReferenceIdeal.Row.result x f k := by
  funext i
  idx_vars i
  exact (column_at _ _).trans (mean_eq x f k hx hk _)

/-- The value claim: from memories agreeing on the arguments, and signals and taps of real numbers, both programs end
    with equal row means and unchanged arguments. -/
theorem agree [hP : Cert.Pre_finite_signal.Facts] :
    Cert.algebraic_KernelIdeal_ReferenceIdeal_pre_finite_signal (hKernelIdeal := Cert.KernelIdeal.Gen.facts)
      (hReferenceIdeal := Cert.ReferenceIdeal.Gen.facts) (hPre_finite_signal := hP) := by
  intro m g m' g' hpre hagree
  have hreal := fun c => Cert.Pre_finite_signal.real_of_fn _ _ _ (hpre c)
  refine ⟨_, run_kernel m g fun c R j => ?_, ?_⟩
  · obtain ⟨hx, hk⟩ := hreal c
    choose ξ hξ using hx
    choose κ hκ using hk
    obtain ⟨β, hβ⟩ := blur_real _ _ _ _ (fun i => hξ (ix2 R i)) (fun t => hκ (ix1 t)) j
    exact lt_of_lt_of_eq (EReal.bot_lt_coe β) hβ.symm
  · refine (θ_run _ _ _).mono (fun r h c => ⟨(h c).1.trans ?_, (h c).2⟩) (Cert.ReferenceIdeal.Value.run m' g')
    refine (Cert.ReferenceIdeal.Row.term_eq _).trans ?_
    obtain ⟨a0, a1, a2⟩ := hagree c
    refine Eq.trans (congr (congr (congrArg Cert.ReferenceIdeal.Row.result a0) a1) a2) ?_
    exact (rows_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (hreal c).1 (hreal c).2).symm

end Cert.Values

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Lib.Claim
public import Idealize.ShloMosaic.Lib.Quiescent

@[expose] public section

noncomputable section

namespace Cert.Proof

open Idealize.ShloMosaic Idealize.SL.Sem

/-- The side conditions of the precondition's operations hold of its literal shapes. -/
theorem preFacts : Cert.Pre_finite_signal.Facts := by
  constructor <;> decide

/-- The reference runs, leaves its arguments alone, and ends with every counter at zero: it has no counter at all. -/
theorem frame_reference : Cert.quiescent_ReferenceIdeal (hReferenceIdeal := Cert.ReferenceIdeal.Gen.facts) := by
  intro m g _
  refine (θ_run _ _ _).mono (fun r h => ⟨fun c => (h c).2, sem_eq_zero_of_no_sems (by decide) r.2⟩)
    (Cert.ReferenceIdeal.Value.run m g)

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Values.agree (hP := preFacts)⟩

end Cert.Proof

end
